-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![8192, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S512x512 : Shape := ⟨2, ![512, 512]⟩
abbrev S16x2x256x512 : Shape := ⟨4, ![16, 2, 256, 512]⟩
abbrev S16x512x1 : Shape := ⟨3, ![16, 512, 1]⟩
abbrev S7 : Shape := ⟨1, ![7]⟩
abbrev S8 : Shape := ⟨1, ![8]⟩
abbrev S2 : Shape := ⟨1, ![2]⟩
abbrev S1 : Shape := ⟨1, ![1]⟩
abbrev S_ : Shape := ⟨0, ![]⟩
abbrev S1x2x256x512 : Shape := ⟨4, ![1, 2, 256, 512]⟩
abbrev S1x512x1 : Shape := ⟨3, ![1, 512, 1]⟩
abbrev S1x256x512 : Shape := ⟨3, ![1, 256, 512]⟩
abbrev S256x512 : Shape := ⟨2, ![256, 512]⟩
abbrev S16x512x32 : Shape := ⟨3, ![16, 512, 32]⟩
abbrev S512x32 : Shape := ⟨2, ![512, 32]⟩
abbrev S32 : Shape := ⟨1, ![32]⟩
abbrev S1x32 : Shape := ⟨2, ![1, 32]⟩
abbrev S512 : Shape := ⟨1, ![512]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S512x512, .f32⟩
  | .local _ .vmem, ⟨4, _⟩ => ⟨S16x2x256x512, .f32⟩
  | .local _ .vmem, ⟨5, _⟩ => ⟨S16x512x1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let c0_i32_6 : BitVec 32 := 0#32
  let c0_i32_7 : BitVec 32 := 0#32
  ![v2.toNat, 0, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let c0_i32_10 : BitVec 32 := 0#32
  ![v2.toNat, 0, 0]
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_19 : BitVec 32 := 1#32
  let v25 : BitVec 32 := Scalar.muli v5 c1_i32_19
  let v26 : BitVec 32 := Scalar.addi c0_i32_20 v25
  v26.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_22 : BitVec 32 := 1#32
  let v27 : BitVec 32 := Scalar.muli v7 c1_i32_22
  let v28 : BitVec 32 := Scalar.addi c0_i32_23 v27
  v28.toNat
def k0_off3 (d0 : Dev nD) (c0_i32_27 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v34 : BitVec 32 := Scalar.subi v2 c0_i32_27
  let c32_i32 : BitVec 32 := 32#32
  let v35 : BitVec 32 := Scalar.addi v34 c32_i32
  let c16_i32_28 : BitVec 32 := 16#32
  let v36 : BitVec 32 := Scalar.remsi v35 c16_i32_28
  let c0_i32_35 : BitVec 32 := 0#32
  let c0_i32_36 : BitVec 32 := 0#32
  let c0_i32_37 : BitVec 32 := 0#32
  ![v36.toNat, 0, 0, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_33 : BitVec 32 := 1#32
  let v39 : BitVec 32 := Scalar.muli v7 c1_i32_33
  let v40 : BitVec 32 := Scalar.addi c0_i32_34 v39
  v40.toNat
def k0_off4 (d0 : Dev nD) (c0_i32_27 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v34 : BitVec 32 := Scalar.subi v2 c0_i32_27
  let c32_i32 : BitVec 32 := 32#32
  let v35 : BitVec 32 := Scalar.addi v34 c32_i32
  let c16_i32_28 : BitVec 32 := 16#32
  let v36 : BitVec 32 := Scalar.remsi v35 c16_i32_28
  let c0_i32_45 : BitVec 32 := 0#32
  let c0_i32_46 : BitVec 32 := 0#32
  ![v36.toNat, 0, 0]
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_43 : BitVec 32 := 1#32
  let v49 : BitVec 32 := Scalar.muli v7 c1_i32_43
  let v50 : BitVec 32 := Scalar.addi c0_i32_44 v49
  v50.toNat
def k0_off5 (d0 : Dev nD) (c0_i32_29 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v37 : BitVec 32 := Scalar.addi v2 c0_i32_29
  let c16_i32_30 : BitVec 32 := 16#32
  let v38 : BitVec 32 := Scalar.remsi v37 c16_i32_30
  let c0_i32_53 : BitVec 32 := 0#32
  let c0_i32_54 : BitVec 32 := 0#32
  let c0_i32_55 : BitVec 32 := 0#32
  ![v38.toNat, 0, 0, 0]
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_51 : BitVec 32 := 1#32
  let v59 : BitVec 32 := Scalar.muli v5 c1_i32_51
  let v60 : BitVec 32 := Scalar.addi c0_i32_52 v59
  v60.toNat
def k0_off6 (d0 : Dev nD) (c0_i32_29 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v37 : BitVec 32 := Scalar.addi v2 c0_i32_29
  let c16_i32_30 : BitVec 32 := 16#32
  let v38 : BitVec 32 := Scalar.remsi v37 c16_i32_30
  let c0_i32_63 : BitVec 32 := 0#32
  let c0_i32_64 : BitVec 32 := 0#32
  ![v38.toNat, 0, 0]
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_61 : BitVec 32 := 1#32
  let v69 : BitVec 32 := Scalar.muli v5 c1_i32_61
  let v70 : BitVec 32 := Scalar.addi c0_i32_62 v69
  v70.toNat
def k0_off7 (d0 : Dev nD) (c0_i32_108 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v129 : BitVec 32 := Scalar.subi v2 c0_i32_108
  let c1_i32_109 : BitVec 32 := 1#32
  let v130 : BitVec 32 := Scalar.subi v129 c1_i32_109
  let c32_i32_110 : BitVec 32 := 32#32
  let v131 : BitVec 32 := Scalar.addi v130 c32_i32_110
  let c16_i32_111 : BitVec 32 := 16#32
  let v132 : BitVec 32 := Scalar.remsi v131 c16_i32_111
  let c0_i32_116 : BitVec 32 := 0#32
  let c0_i32_117 : BitVec 32 := 0#32
  let c0_i32_118 : BitVec 32 := 0#32
  ![v132.toNat, 0, 0, 0]
def k0_off8 (d0 : Dev nD) (c0_i32_108 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v129 : BitVec 32 := Scalar.subi v2 c0_i32_108
  let c1_i32_109 : BitVec 32 := 1#32
  let v130 : BitVec 32 := Scalar.subi v129 c1_i32_109
  let c32_i32_110 : BitVec 32 := 32#32
  let v131 : BitVec 32 := Scalar.addi v130 c32_i32_110
  let c16_i32_111 : BitVec 32 := 16#32
  let v132 : BitVec 32 := Scalar.remsi v131 c16_i32_111
  let c0_i32_126 : BitVec 32 := 0#32
  let c0_i32_127 : BitVec 32 := 0#32
  ![v132.toNat, 0, 0]
def k0_off9 (d0 : Dev nD) (c0_i32_130 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v149 : BitVec 32 := Scalar.addi v2 c0_i32_130
  let c1_i32_131 : BitVec 32 := 1#32
  let v150 : BitVec 32 := Scalar.addi v149 c1_i32_131
  let c16_i32_132 : BitVec 32 := 16#32
  let v151 : BitVec 32 := Scalar.remsi v150 c16_i32_132
  let c0_i32_137 : BitVec 32 := 0#32
  let c0_i32_138 : BitVec 32 := 0#32
  let c0_i32_139 : BitVec 32 := 0#32
  ![v151.toNat, 0, 0, 0]
def k0_off10 (d0 : Dev nD) (c0_i32_130 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v149 : BitVec 32 := Scalar.addi v2 c0_i32_130
  let c1_i32_131 : BitVec 32 := 1#32
  let v150 : BitVec 32 := Scalar.addi v149 c1_i32_131
  let c16_i32_132 : BitVec 32 := 16#32
  let v151 : BitVec 32 := Scalar.remsi v150 c16_i32_132
  let c0_i32_147 : BitVec 32 := 0#32
  let c0_i32_148 : BitVec 32 := 0#32
  ![v151.toNat, 0, 0]
def k0_dev7 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_158 : BitVec 32 := 1#32
  let v173 : BitVec 32 := Scalar.muli v7 c1_i32_158
  let v174 : BitVec 32 := Scalar.addi c0_i32_159 v173
  v174.toNat
def k0_dev8 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_168 : BitVec 32 := 1#32
  let v183 : BitVec 32 := Scalar.muli v7 c1_i32_168
  let v184 : BitVec 32 := Scalar.addi c0_i32_169 v183
  v184.toNat
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_176 : BitVec 32 := 1#32
  let v193 : BitVec 32 := Scalar.muli v5 c1_i32_176
  let v194 : BitVec 32 := Scalar.addi c0_i32_177 v193
  v194.toNat
def k0_dev10 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_186 : BitVec 32 := 1#32
  let v203 : BitVec 32 := Scalar.muli v5 c1_i32_186
  let v204 : BitVec 32 := Scalar.addi c0_i32_187 v203
  v204.toNat
def k0_off11 (d0 : Dev nD) (c1_i32_192 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v213 : BitVec 32 := Scalar.subi v2 c1_i32_192
  let c32_i32_193 : BitVec 32 := 32#32
  let v214 : BitVec 32 := Scalar.addi v213 c32_i32_193
  let c16_i32_194 : BitVec 32 := 16#32
  let v215 : BitVec 32 := Scalar.remsi v214 c16_i32_194
  let v218 : Index := Scalar.indexCast v215
  let c0_197 : Index := 0#32
  let c0_198 : Index := 0#32
  let c0_199 : Index := 0#32
  ![v218.toNat, 0, 0, 0]
def k0_off12 (d0 : Dev nD) (c1_i32_195 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v216 : BitVec 32 := Scalar.addi v2 c1_i32_195
  let c16_i32_196 : BitVec 32 := 16#32
  let v217 : BitVec 32 := Scalar.remsi v216 c16_i32_196
  let v245 : Index := Scalar.indexCast v217
  let c0_206 : Index := 0#32
  let c0_207 : Index := 0#32
  let c0_208 : Index := 0#32
  ![v245.toNat, 0, 0, 0]
def k0_dev11 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_297 : BitVec 32 := 1#32
  let v340 : BitVec 32 := Scalar.muli v7 c1_i32_297
  let v341 : BitVec 32 := Scalar.addi c0_i32_298 v340
  v341.toNat
def k0_dev12 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_307 : BitVec 32 := 1#32
  let v350 : BitVec 32 := Scalar.muli v7 c1_i32_307
  let v351 : BitVec 32 := Scalar.addi c0_i32_308 v350
  v351.toNat
def k0_dev13 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_315 : BitVec 32 := 1#32
  let v360 : BitVec 32 := Scalar.muli v5 c1_i32_315
  let v361 : BitVec 32 := Scalar.addi c0_i32_316 v360
  v361.toNat
def k0_dev14 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_325 : BitVec 32 := 1#32
  let v370 : BitVec 32 := Scalar.muli v5 c1_i32_325
  let v371 : BitVec 32 := Scalar.addi c0_i32_326 v370
  v371.toNat
def k0_dev15 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_435 : BitVec 32 := 1#32
  let v507 : BitVec 32 := Scalar.muli v7 c1_i32_435
  let v508 : BitVec 32 := Scalar.addi c0_i32_436 v507
  v508.toNat
def k0_dev16 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_445 : BitVec 32 := 1#32
  let v517 : BitVec 32 := Scalar.muli v7 c1_i32_445
  let v518 : BitVec 32 := Scalar.addi c0_i32_446 v517
  v518.toNat
def k0_dev17 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_453 : BitVec 32 := 1#32
  let v527 : BitVec 32 := Scalar.muli v5 c1_i32_453
  let v528 : BitVec 32 := Scalar.addi c0_i32_454 v527
  v528.toNat
def k0_dev18 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_463 : BitVec 32 := 1#32
  let v537 : BitVec 32 := Scalar.muli v5 c1_i32_463
  let v538 : BitVec 32 := Scalar.addi c0_i32_464 v537
  v538.toNat
def k0_dev19 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_573 : BitVec 32 := 1#32
  let v674 : BitVec 32 := Scalar.muli v7 c1_i32_573
  let v675 : BitVec 32 := Scalar.addi c0_i32_574 v674
  v675.toNat
def k0_dev20 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_583 : BitVec 32 := 1#32
  let v684 : BitVec 32 := Scalar.muli v7 c1_i32_583
  let v685 : BitVec 32 := Scalar.addi c0_i32_584 v684
  v685.toNat
def k0_dev21 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_591 : BitVec 32 := 1#32
  let v694 : BitVec 32 := Scalar.muli v5 c1_i32_591
  let v695 : BitVec 32 := Scalar.addi c0_i32_592 v694
  v695.toNat
def k0_dev22 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_601 : BitVec 32 := 1#32
  let v704 : BitVec 32 := Scalar.muli v5 c1_i32_601
  let v705 : BitVec 32 := Scalar.addi c0_i32_602 v704
  v705.toNat
def k0_dev23 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_711 : BitVec 32 := 1#32
  let v841 : BitVec 32 := Scalar.muli v7 c1_i32_711
  let v842 : BitVec 32 := Scalar.addi c0_i32_712 v841
  v842.toNat
def k0_dev24 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_721 : BitVec 32 := 1#32
  let v851 : BitVec 32 := Scalar.muli v7 c1_i32_721
  let v852 : BitVec 32 := Scalar.addi c0_i32_722 v851
  v852.toNat
def k0_dev25 (d0 : Dev nD) : Nat :=
  let c0_i32_730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_729 : BitVec 32 := 1#32
  let v861 : BitVec 32 := Scalar.muli v5 c1_i32_729
  let v862 : BitVec 32 := Scalar.addi c0_i32_730 v861
  v862.toNat
def k0_dev26 (d0 : Dev nD) : Nat :=
  let c0_i32_740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_739 : BitVec 32 := 1#32
  let v871 : BitVec 32 := Scalar.muli v5 c1_i32_739
  let v872 : BitVec 32 := Scalar.addi c0_i32_740 v871
  v872.toNat
def k0_dev27 (d0 : Dev nD) : Nat :=
  let c0_i32_850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_849 : BitVec 32 := 1#32
  let v1008 : BitVec 32 := Scalar.muli v7 c1_i32_849
  let v1009 : BitVec 32 := Scalar.addi c0_i32_850 v1008
  v1009.toNat
def k0_dev28 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_859 : BitVec 32 := 1#32
  let v1018 : BitVec 32 := Scalar.muli v7 c1_i32_859
  let v1019 : BitVec 32 := Scalar.addi c0_i32_860 v1018
  v1019.toNat
def k0_dev29 (d0 : Dev nD) : Nat :=
  let c0_i32_868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_867 : BitVec 32 := 1#32
  let v1028 : BitVec 32 := Scalar.muli v5 c1_i32_867
  let v1029 : BitVec 32 := Scalar.addi c0_i32_868 v1028
  v1029.toNat
def k0_dev30 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_877 : BitVec 32 := 1#32
  let v1038 : BitVec 32 := Scalar.muli v5 c1_i32_877
  let v1039 : BitVec 32 := Scalar.addi c0_i32_878 v1038
  v1039.toNat
def k0_dev31 (d0 : Dev nD) : Nat :=
  let c0_i32_985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_984 : BitVec 32 := 1#32
  let v1172 : BitVec 32 := Scalar.muli v5 c1_i32_984
  let v1173 : BitVec 32 := Scalar.addi c0_i32_985 v1172
  v1173.toNat
def k0_dev32 (d0 : Dev nD) : Nat :=
  let c0_i32_995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_994 : BitVec 32 := 1#32
  let v1182 : BitVec 32 := Scalar.muli v5 c1_i32_994
  let v1183 : BitVec 32 := Scalar.addi c0_i32_995 v1182
  v1183.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S8192 : Shape := ⟨1, ![8192]⟩
abbrev S1x32 : Shape := ⟨2, ![1, 32]⟩
abbrev S8192x32 : Shape := ⟨2, ![8192, 32]⟩
abbrev S_ : Shape := ⟨0, ![]⟩
abbrev S8192x32x512 : Shape := ⟨3, ![8192, 32, 512]⟩
abbrev S8192x32x1 : Shape := ⟨3, ![8192, 32, 1]⟩
abbrev S8192x512 : Shape := ⟨2, ![8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x32, .f32⟩
  | .hbm, ⟨2, _⟩ => ⟨S8192x1, .i32⟩
  | .hbm, ⟨3, _⟩ => ⟨S32x256x512, .f32⟩
  | .hbm, ⟨4, _⟩ => ⟨S8192, .i32⟩
  | .hbm, ⟨5, _⟩ => ⟨S8192x1, .i32⟩
  | .hbm, ⟨6, _⟩ => ⟨S1x32, .i32⟩
  | .hbm, ⟨7, _⟩ => ⟨S8192x32, .i32⟩
  | .hbm, ⟨8, _⟩ => ⟨S8192x32, .i32⟩
  | .hbm, ⟨9, _⟩ => ⟨S8192x32, .i1⟩
  | .hbm, ⟨10, _⟩ => ⟨S8192x32, .i32⟩
  | .hbm, ⟨11, _⟩ => ⟨S_, .i32⟩
  | .hbm, ⟨12, _⟩ => ⟨S_, .i32⟩
  | .hbm, ⟨13, _⟩ => ⟨S8192x32, .i32⟩
  | .hbm, ⟨14, _⟩ => ⟨S8192x32, .i32⟩
  | .hbm, ⟨15, _⟩ => ⟨S_, .i32⟩
  | .hbm, ⟨16, _⟩ => ⟨S8192x32, .i32⟩
  | .hbm, ⟨17, _⟩ => ⟨S8192x32, .i1⟩
  | .hbm, ⟨18, _⟩ => ⟨S_, .i32⟩
  | .hbm, ⟨19, _⟩ => ⟨S8192x32, .i32⟩
  | .hbm, ⟨20, _⟩ => ⟨S8192x32, .i1⟩
  | .hbm, ⟨21, _⟩ => ⟨S8192x32, .i1⟩
  | .hbm, ⟨22, _⟩ => ⟨S8192x32x512, .f32⟩
  | .hbm, ⟨23, _⟩ => ⟨S8192x32x1, .i1⟩
  | .hbm, ⟨24, _⟩ => ⟨S_, .f32⟩
  | .hbm, ⟨25, _⟩ => ⟨S_, .f32⟩
  | .hbm, ⟨26, _⟩ => ⟨S8192x32x512, .i1⟩
  | .hbm, ⟨27, _⟩ => ⟨S8192x32x512, .f32⟩
  | .hbm, ⟨28, _⟩ => ⟨S8192x32x512, .f32⟩
  | .hbm, ⟨29, _⟩ => ⟨S_, .f32⟩
  | .hbm, ⟨30, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_call1_call0_c : Ref sig .tc := ⟨.hbm, 11, rfl⟩
abbrev main_call1_call0_v0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Proof.Hops.lean ====
/-
# The kernel's body, hop by hop

A device of the ring first copies its own experts' weights and its own tokens' routing into its slot of the two
gather buffers, tells its two neighbours that it has entered, and waits for both. Then it makes eight hops: in each
it passes on to the right the slot that came from the left (the last hop excepted) and to the left the slot that came
from the right, adds to its sum what the slots that are already here contribute, and waits for its own copies and for
its neighbours'. The printed body lists all of that operation by operation; here it is the same sequence with the hop's
number a variable, so that what holds of a hop is proved once.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Moe

open Cert.KernelIdeal Cert.KernelIdeal.Gen
open Idealize.ShloMosaic Idealize.SL.Sem

variable {F : FTy → Type} [FloatOps F]

/-! ## The buffers -/

abbrev xM : Memref sig .tc .vmem S512x256 .f32 := Memref.whole cc0_stg0_0
abbrev riM : Memref sig .tc .vmem S512x1 .i32 := Memref.whole cc0_stg1_0
abbrev wM : Memref sig .tc .vmem S2x256x512 .f32 := Memref.whole cc0_stg2_0
abbrev oM : Memref sig .tc .vmem S512x512 .f32 := Memref.whole cc0_stg3_0
/-- The gathered weights and the gathered routing, a slot per device. -/
abbrev ewM : Memref sig .tc .vmem S16x2x256x512 .f32 := Memref.whole cc0_scratch0
abbrev rgM : Memref sig .tc .vmem S16x512x1 .i32 := Memref.whole cc0_scratch1

/-- The slot of the gathered weights at an offset. -/
abbrev ewAt (off : Fin 4 → Nat) (h : ∀ a, off a + S1x2x256x512.size a ≤ S16x2x256x512.size a) : Memref sig .tc .vmem S2x256x512 .f32 :=
  (ewM.slice (Rect.unit (s := S16x2x256x512) off S1x2x256x512.size h) (fun _ => rfl)).squeeze S2x256x512 squeezes_S1x2x256x512_S2x256x512
/-- The slot of the gathered routing at an offset. -/
abbrev rgAt (off : Fin 3 → Nat) (h : ∀ a, off a + S1x512x1.size a ≤ S16x512x1.size a) : Memref sig .tc .vmem S512x1 .i32 :=
  (rgM.slice (Rect.unit (s := S16x512x1) off S1x512x1.size h) (fun _ => rfl)).squeeze S512x1 squeezes_S1x512x1_S512x1

/-! ## The semaphores -/

/-- Hop `h` to the right: sent and received, the weights' and the routing's. -/
abbrev fwS (h : Fin 7) : DmaSem sig := ⟨4 + h.val, by have := h.isLt; show 4 + h.val < 66; omega⟩
abbrev fwR (h : Fin 7) : DmaSem sig := ⟨11 + h.val, by have := h.isLt; show 11 + h.val < 66; omega⟩
abbrev frS (h : Fin 7) : DmaSem sig := ⟨34 + h.val, by have := h.isLt; show 34 + h.val < 66; omega⟩
abbrev frR (h : Fin 7) : DmaSem sig := ⟨41 + h.val, by have := h.isLt; show 41 + h.val < 66; omega⟩
/-- Hop `h` to the left. -/
abbrev bwS (h : Fin 8) : DmaSem sig := ⟨18 + h.val, by have := h.isLt; show 18 + h.val < 66; omega⟩
abbrev bwR (h : Fin 8) : DmaSem sig := ⟨26 + h.val, by have := h.isLt; show 26 + h.val < 66; omega⟩
abbrev brS (h : Fin 8) : DmaSem sig := ⟨48 + h.val, by have := h.isLt; show 48 + h.val < 66; omega⟩
abbrev brR (h : Fin 8) : DmaSem sig := ⟨56 + h.val, by have := h.isLt; show 56 + h.val < 66; omega⟩
/-- The device's own two copies. -/
abbrev own0 : DmaSem sig := ⟨64, by decide⟩
abbrev own1 : DmaSem sig := ⟨65, by decide⟩
/-- The barrier. -/
abbrev barS : Sem sig := sig.barrier 0 rfl

/-! ## What is added -/

/-- One expert's share of the sum: the tokens routed to expert `e`, times its weights. -/
def part (ridx : IVec S512x1 32) (xv : FVec F S512x256 .f32) (e : BitVec 32) (w : FVec F S256x512 .f32) : FVec F S512x512 .f32 :=
  matmul dot_S512x256_S256x512_S512x512_1_0_0_1_n_n none
    (mulf xv (broadcastTo S512x256 (sitofp .f32 (extui 32 (cmpi .eq ridx (broadcast S512x1 e)) natLt_1_32)) broadcasts_S512x1_S512x256))
    w (constant S512x512 .f32 0x00000000#32)

/-- A device's two experts added to the sum. -/
def contrib (ridx : IVec S512x1 32) (xv : FVec F S512x256 .f32) (acc : FVec F S512x512 .f32) (o : BitVec 32) (w : FVec F S2x256x512 .f32) :
    FVec F S512x512 .f32 :=
  addf (addf acc (part ridx xv (Scalar.addi (Scalar.muli o 2#32) 0#32)
      (shapeCast S256x512 (extractStridedSlice S1x256x512 ![0, 0, 0] w slices_S2x256x512_o0_0_0_S1x256x512) shapeCasts_S1x256x512_S256x512)))
    (part ridx xv (Scalar.addi (Scalar.muli o 2#32) 1#32)
      (shapeCast S256x512 (extractStridedSlice S1x256x512 ![1, 0, 0] w slices_S2x256x512_o1_0_0_S1x256x512) shapeCasts_S1x256x512_S256x512))

/-- The device's number, as a word. -/
def me (c : Dev nD) : BitVec 32 := Scalar.remsi (Scalar.divsi (Dev.word c) 1#32) 16#32
/-- The devices `h` places to the left and to the right, as words. -/
def fromL (c : Dev nD) (h : BitVec 32) : BitVec 32 := Scalar.remsi (Scalar.addi (Scalar.subi (me c) h) 32#32) 16#32
def fromR (c : Dev nD) (h : BitVec 32) : BitVec 32 := Scalar.remsi (Scalar.addi (me c) h) 16#32

/-! ## The copies of a hop and their waits -/

def sendF (c : Dev nD) (h : Fin 7) : Prog (TpuEff nD τ sig (Elt F) Λ₀ .tc) PUnit := do
  Prog.lift (.enqueueDma (ewAt (k0_off3 c (BitVec.ofNat 32 h.val)) (k0_off3_inb c h))
    (.remote (Dev.tc (⟨k0_dev3 c, k0_dev3_lt c⟩ : Dev nD)) (ewAt (k0_off3 c (BitVec.ofNat 32 h.val)) (k0_off3_inb c h)) (.dma (fwS h)))
    (.dma (fwR h)) ((View.wordExact_bits rfl).reshape _ _) ((View.wordExact_bits rfl).reshape _ _) ⟨⟨rfl, Or.inl rfl⟩, trivial⟩)
  Prog.lift (.enqueueDma (rgAt (k0_off4 c (BitVec.ofNat 32 h.val)) (k0_off4_inb c h))
    (.remote (Dev.tc (⟨k0_dev4 c, k0_dev4_lt c⟩ : Dev nD)) (rgAt (k0_off4 c (BitVec.ofNat 32 h.val)) (k0_off4_inb c h)) (.dma (frS h)))
    (.dma (frR h)) ((View.wordExact_bits rfl).reshape _ _) ((View.wordExact_bits rfl).reshape _ _) ⟨⟨rfl, Or.inl rfl⟩, trivial⟩)

def sendB (c : Dev nD) (h : Fin 8) : Prog (TpuEff nD τ sig (Elt F) Λ₀ .tc) PUnit := do
  Prog.lift (.enqueueDma (ewAt (k0_off5 c (BitVec.ofNat 32 h.val)) (k0_off5_inb c h))
    (.remote (Dev.tc (⟨k0_dev5 c, k0_dev5_lt c⟩ : Dev nD)) (ewAt (k0_off5 c (BitVec.ofNat 32 h.val)) (k0_off5_inb c h)) (.dma (bwS h)))
    (.dma (bwR h)) ((View.wordExact_bits rfl).reshape _ _) ((View.wordExact_bits rfl).reshape _ _) ⟨⟨rfl, Or.inl rfl⟩, trivial⟩)
  Prog.lift (.enqueueDma (rgAt (k0_off6 c (BitVec.ofNat 32 h.val)) (k0_off6_inb c h))
    (.remote (Dev.tc (⟨k0_dev6 c, k0_dev6_lt c⟩ : Dev nD)) (rgAt (k0_off6 c (BitVec.ofNat 32 h.val)) (k0_off6_inb c h)) (.dma (brS h)))
    (.dma (brR h)) ((View.wordExact_bits rfl).reshape _ _) ((View.wordExact_bits rfl).reshape _ _) ⟨⟨rfl, Or.inl rfl⟩, trivial⟩)

/-- A wait for a copy of a slot of weights, of routing. -/
abbrev waitEw (s : DmaSem sig) (off : Fin 4 → Nat) (h : ∀ a, off a + S1x2x256x512.size a ≤ S16x2x256x512.size a) :
    Prog (TpuEff nD τ sig (Elt F) Λ₀ .tc) PUnit :=
  Prog.lift (.waitDma2 s (ewAt off h) (ewAt off h) ((View.wordExact_bits rfl).reshape _ _) ((View.wordExact_bits rfl).reshape _ _))
abbrev waitRg (s : DmaSem sig) (off : Fin 3 → Nat) (h : ∀ a, off a + S1x512x1.size a ≤ S16x512x1.size a) :
    Prog (TpuEff nD τ sig (Elt F) Λ₀ .tc) PUnit :=
  Prog.lift (.waitDma2 s (rgAt off h) (rgAt off h) ((View.wordExact_bits rfl).reshape _ _) ((View.wordExact_bits rfl).reshape _ _))

def waitSentF (c : Dev nD) (h : Fin 7) : Prog (TpuEff nD τ sig (Elt F) Λ₀ .tc) PUnit := do
  waitEw (fwS h) (k0_off3 c (BitVec.ofNat 32 h.val)) (k0_off3_inb c h)
  waitRg (frS h) (k0_off4 c (BitVec.ofNat 32 h.val)) (k0_off4_inb c h)
def waitSentB (c : Dev nD) (h : Fin 8) : Prog (TpuEff nD τ sig (Elt F) Λ₀ .tc) PUnit := do
  waitEw (bwS h) (k0_off5 c (BitVec.ofNat 32 h.val)) (k0_off5_inb c h)
  waitRg (brS h) (k0_off6 c (BitVec.ofNat 32 h.val)) (k0_off6_inb c h)
def waitGotF (c : Dev nD) (h : Fin 7) : Prog (TpuEff nD τ sig (Elt F) Λ₀ .tc) PUnit := do
  waitEw (fwR h) (k0_off7 c (BitVec.ofNat 32 h.val)) (k0_off7_inb c h)
  waitRg (frR h) (k0_off8 c (BitVec.ofNat 32 h.val)) (k0_off8_inb c h)
def waitGotB (c : Dev nD) (h : Fin 8) : Prog (TpuEff nD τ sig (Elt F) Λ₀ .tc) PUnit := do
  waitEw (bwR h) (k0_off9 c (BitVec.ofNat 32 h.val)) (k0_off9_inb c h)
  waitRg (brR h) (k0_off10 c (BitVec.ofNat 32 h.val)) (k0_off10_inb c h)

/-- The slot that hop `r` brought from the left, from the right, loaded. -/
def loadF (c : Dev nD) (r : Fin 7) : Prog (TpuEff nD τ sig (Elt F) Λ₀ .tc) (Vec F S1x2x256x512 .f32) :=
  Prog.lift (.load ewM (Rect.unit (s := S16x2x256x512) (k0_off11 c (BitVec.ofNat 32 (1 + r.val))) S1x2x256x512.size (k0_off11_inb c r)).toLoadRect
    (View.loadsAt_vmem h_S1x2x256x512))
def loadB (c : Dev nD) (r : Fin 8) : Prog (TpuEff nD τ sig (Elt F) Λ₀ .tc) (Vec F S1x2x256x512 .f32) :=
  Prog.lift (.load ewM (Rect.unit (s := S16x2x256x512) (k0_off12 c (BitVec.ofNat 32 (1 + r.val))) S1x2x256x512.size (k0_off12_inb c r)).toLoadRect
    (View.loadsAt_vmem h_S1x2x256x512))

/-- A loaded slot as the two experts' weights. -/
abbrev slotW (w : Vec F S1x2x256x512 .f32) : FVec F S2x256x512 .f32 := shapeCast S2x256x512 w shapeCasts_S1x2x256x512_S2x256x512

/-! ## The hops -/

/-- Hop number `1 + r` as a hop to the right and to the left. -/
abbrev hF (r : Fin 6) : Fin 7 := ⟨r.val + 1, by have := r.isLt; omega⟩
abbrev hB (r : Fin 7) : Fin 8 := ⟨r.val + 1, by have := r.isLt; omega⟩

def hop0 (c : Dev nD) (ridx : IVec S512x1 32) (xv : FVec F S512x256 .f32) : Prog (TpuEff nD τ sig (Elt F) Λ₀ .tc) (FVec F S512x512 .f32) := do
  sendF c 0
  sendB c 0
  let w : Vec F S2x256x512 .f32 ← Prog.lift (.load wM (Rect.unit (s := S2x256x512) ![0, 0, 0] S2x256x512.size inb_S2x256x512_S2x256x512_0_0_0).toLoadRect (View.loadsAt_vmem h_S2x256x512))
  waitSentF c 0
  waitSentB c 0
  waitGotF c 0
  waitGotB c 0
  pure (contrib ridx xv k0_pay3 (me c) (k0_pay4 w))

def hopMid (c : Dev nD) (ridx : IVec S512x1 32) (xv : FVec F S512x256 .f32) (r : Fin 6) (acc : FVec F S512x512 .f32) :
    Prog (TpuEff nD τ sig (Elt F) Λ₀ .tc) (FVec F S512x512 .f32) := do
  sendF c (hF r)
  sendB c (hB r.castSucc)
  let w₁ ← loadF c r.castSucc
  let w₂ ← loadB c r.castSucc.castSucc
  waitSentF c (hF r)
  waitSentB c (hB r.castSucc)
  waitGotF c (hF r)
  waitGotB c (hB r.castSucc)
  pure (contrib ridx xv (contrib ridx xv acc (fromL c (BitVec.ofNat 32 (1 + r.val))) (slotW w₁)) (fromR c (BitVec.ofNat 32 (1 + r.val))) (slotW w₂))

def hop7 (c : Dev nD) (ridx : IVec S512x1 32) (xv : FVec F S512x256 .f32) (acc : FVec F S512x512 .f32) :
    Prog (TpuEff nD τ sig (Elt F) Λ₀ .tc) (FVec F S512x512 .f32) := do
  sendB c 7
  let w₁ ← loadF c 6
  let w₂ ← loadB c 6
  waitSentB c 7
  waitGotB c 7
  pure (contrib ridx xv (contrib ridx xv acc (fromL c 7#32) (slotW w₁)) (fromR c 7#32) (slotW w₂))

/-- The device's own block into its slots. -/
def ownCopies (c : Dev nD) : Prog (TpuEff nD τ sig (Elt F) Λ₀ .tc) PUnit := do
  Prog.lift (.enqueueDma wM (.here (ewAt (k0_off1 c) (k0_off1_inb c))) (.dma own0) (Memref.isWhole_whole _).wordExact ((View.wordExact_bits rfl).reshape _ _) ⟨Or.inl rfl, trivial⟩)
  Prog.lift (.enqueueDma riM (.here (rgAt (k0_off2 c) (k0_off2_inb c))) (.dma own1) (Memref.isWhole_whole _).wordExact ((View.wordExact_bits rfl).reshape _ _) ⟨Or.inl rfl, trivial⟩)
  Prog.lift (.waitDma2 own0 wM (ewAt (k0_off1 c) (k0_off1_inb c)) (Memref.isWhole_whole _).wordExact ((View.wordExact_bits rfl).reshape _ _))
  Prog.lift (.waitDma2 own1 riM (rgAt (k0_off2 c) (k0_off2_inb c)) (Memref.isWhole_whole _).wordExact ((View.wordExact_bits rfl).reshape _ _))

/-- The result of a device: the sum over all devices' experts, with the tokens beyond an expert's capacity at zero. -/
def outVal (c : Dev nD) (ridx : IVec S512x1 32) (acc : FVec F S512x512 .f32) (rall : Vec F S16x512x1 .i32) : FVec F S512x512 .f32 :=
  k0_pay34 acc (k0_pay32 (me c) rall) (k0_pay33 ridx) (iota .tc S512x512 32 [0] iota_S512x512_d0_w32) (iota .tc S512x512 32 [1] iota_S512x512_d1_w32)

def moeBody : Prog (TpuEff nD τ sig (Elt F) Λ₀ .tc) PUnit := do
  let c : Dev nD ← Prog.lift .deviceId
  ownCopies c
  semSignalWord (⟨k0_dev1 c, k0_dev1_lt c⟩ : Dev nD) barS 1#32
  semSignalWord (⟨k0_dev2 c, k0_dev2_lt c⟩ : Dev nD) barS 1#32
  semWaitWord barS 2#32
  let r₀ : Vec F S512x1 .i32 ← Prog.lift (.load riM (Rect.unit (s := S512x1) ![0, 0] S512x1.size inb_S512x1_S512x1_0_0).toLoadRect (View.loadsAt_vmem h_S512x1))
  let x₀ : Vec F S512x256 .f32 ← Prog.lift (.load xM (Rect.unit (s := S512x256) ![0, 0] S512x256.size inb_S512x256_S512x256_0_0).toLoadRect (View.loadsAt_vmem h_S512x256))
  let a₀ ← hop0 c (k0_pay1 r₀) (k0_pay2 x₀)
  let a₁ ← hopMid c (k0_pay1 r₀) (k0_pay2 x₀) 0 a₀
  let a₂ ← hopMid c (k0_pay1 r₀) (k0_pay2 x₀) 1 a₁
  let a₃ ← hopMid c (k0_pay1 r₀) (k0_pay2 x₀) 2 a₂
  let a₄ ← hopMid c (k0_pay1 r₀) (k0_pay2 x₀) 3 a₃
  let a₅ ← hopMid c (k0_pay1 r₀) (k0_pay2 x₀) 4 a₄
  let a₆ ← hopMid c (k0_pay1 r₀) (k0_pay2 x₀) 5 a₅
  let a₇ ← hop7 c (k0_pay1 r₀) (k0_pay2 x₀) a₆
  let w₈ ← loadB c 7
  let rall : Vec F S16x512x1 .i32 ← Prog.lift (.load rgM (Rect.unit (s := S16x512x1) ![0, 0, 0] S16x512x1.size inb_S16x512x1_S16x512x1_0_0_0).toLoadRect (View.loadsAt_vmem h_S16x512x1))
  let _ : Vec F S512x512 .f32 ← Prog.lift (.load oM (Rect.unit (s := S512x512) ![0, 0] S512x512.size inb_S512x512_S512x512_0_0).toLoadRect (View.loadsAt_vmem h_S512x512))
  Prog.lift (.store oM (Rect.unit (s := S512x512) ![0, 0] S512x512.size inb_S512x512_S512x512_0_0)
    (outVal c (k0_pay1 r₀) (contrib (k0_pay1 r₀) (k0_pay2 x₀) a₇ (fromR c 8#32) (slotW w₈)) rall) Finset.univ (View.stores_vmem_bits_univ h_S512x512 rfl) (.inl rfl))

set_option maxRecDepth 100000 in
set_option maxHeartbeats 4000000 in
/-- The printed body is the hop-by-hop program: both are the same sequence of operations. -/
theorem body_eq : cc0_body (F := F) xM (Memref.isWhole_whole _) riM (Memref.isWhole_whole _) wM (Memref.isWhole_whole _) oM (Memref.isWhole_whole _)
    ewM (Memref.isWhole_whole _) rgM (Memref.isWhole_whole _) cc0_scratch2 cc0_scratch3 cc0_scratch4 cc0_scratch5 cc0_scratch6 cc0_scratch7
    cc0_scratch8 cc0_scratch9 cc0_scratch10 = moeBody := by
  rw [cc0_body_eq_skeleton]
  simp only [cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel,
    moeBody, ownCopies, hop0, hopMid, hop7, sendF, sendB, waitSentF, waitSentB, waitGotF, waitGotB, loadF, loadB,
    Prog.lift, Prog.bind_op, Prog.bind_ret, Prog.pure_eq_ret, Prog.bind_assoc]
  rfl

end Cert.KernelIdeal.Moe
-- ==== Proof.Slots.lean ====
/-
# The slots of the two gather buffers

The gathered weights and the gathered routing have a slot per device. Here: which elements a slot has (those whose
first coordinate is the device), that the slots are disjoint and fill the buffer, what a buffer holds whose every slot is
a given device's block, and that a landed copy of a slot, and the own copy of a block, leave exactly that.
-/
module

public import proofs.«01_k».proof.Proof.Hops
public import Idealize.ShloMosaic.Lib.ValueLayout
public import Idealize.ShloMosaic.Lib.ViewIndex
public import Idealize.ShloMosaic.Lib.Writes
public import Idealize.ShloMosaic.Lib.Tactic

@[expose] public section

noncomputable section

namespace Cert.KernelIdeal.Moe

open Cert.KernelIdeal Cert.KernelIdeal.Gen
open Idealize.ShloMosaic Idealize.ShloMosaic.ValueIdx Idealize.SL.Sem

variable {F : FTy → Type} [FloatOps F]

theorem ew_inb (s : Dev nD) : ∀ a, (![s.val, 0, 0, 0] : Fin 4 → Nat) a + S1x2x256x512.size a ≤ S16x2x256x512.size a := by
  have h : s.val < 16 := s.isLt
  intro a
  fin_cases a
  · show s.val + 1 ≤ 16; omega
  · show 0 + 2 ≤ 2; omega
  · show 0 + 256 ≤ 256; omega
  · show 0 + 512 ≤ 512; omega
theorem rg_inb (s : Dev nD) : ∀ a, (![s.val, 0, 0] : Fin 3 → Nat) a + S1x512x1.size a ≤ S16x512x1.size a := by
  have h : s.val < 16 := s.isLt
  intro a
  fin_cases a
  · show s.val + 1 ≤ 16; omega
  · show 0 + 512 ≤ 512; omega
  · show 0 + 1 ≤ 1; omega

/-- Device `s`'s slot of the weights, of the routing. -/
abbrev ewS (s : Dev nD) : Memref sig .tc .vmem S2x256x512 .f32 := ewAt ![s.val, 0, 0, 0] (ew_inb s)
abbrev rgS (s : Dev nD) : Memref sig .tc .vmem S512x1 .i32 := rgAt ![s.val, 0, 0] (rg_inb s)

/-- Where a slot's element lies in the buffer. -/
theorem ewS_emb (s : Dev nD) (x : S2x256x512.Idx) : (ewS s).view.emb x = ix4 (⟨s.val, s.isLt⟩ : Fin 16) (x 0) (x 1) (x 2) := by
  have hx : x = ix3 (x 0) (x 1) (x 2) := by funext a; fin_cases a <;> rfl
  have e : (Shape.reshapeEquiv squeezes_S1x2x256x512_S2x256x512.numel_eq x : S1x2x256x512.Idx) = ix4 (⟨0, Nat.one_pos⟩ : Fin 1) (x 0) (x 1) (x 2) := by
    rw [hx]; exact reshapeEquiv_ix3_1abc _ _ _ _
  show (Rect.unit (s := S16x2x256x512) ![s.val, 0, 0, 0] S1x2x256x512.size (ew_inb s)).emb (Shape.reshapeEquiv _ x) = _
  rw [e]
  funext a
  fin_cases a <;> (apply Fin.ext; simp [Rect.emb, Rect.unit, ix4])
theorem rgS_emb (s : Dev nD) (x : S512x1.Idx) : (rgS s).view.emb x = ix3 (⟨s.val, s.isLt⟩ : Fin 16) (x 0) (x 1) := by
  have hx : x = ix2 (x 0) (x 1) := by funext a; fin_cases a <;> rfl
  have e : (Shape.reshapeEquiv squeezes_S1x512x1_S512x1.numel_eq x : S1x512x1.Idx) = ix3 (⟨0, Nat.one_pos⟩ : Fin 1) (x 0) (x 1) := by
    rw [hx]; exact reshapeEquiv_ix2_1ab _ _ _
  show (Rect.unit (s := S16x512x1) ![s.val, 0, 0] S1x512x1.size (rg_inb s)).emb (Shape.reshapeEquiv _ x) = _
  rw [e]
  funext a
  fin_cases a <;> (apply Fin.ext; simp [Rect.emb, Rect.unit, ix3])

/-- A slot's elements. -/
abbrev ewSet (s : Dev nD) : Finset S16x2x256x512.Idx := (ewS s).view.set
abbrev rgSet (s : Dev nD) : Finset S16x512x1.Idx := (rgS s).view.set

theorem mem_ewSet (s : Dev nD) (i : S16x2x256x512.Idx) : i ∈ ewSet s ↔ (i 0).val = s.val := by
  constructor
  · intro h
    obtain ⟨x, -, hx⟩ := Finset.mem_map.mp h
    have hx' : (ewS s).view.emb x = i := hx
    rw [← hx', ewS_emb]
  · intro h
    refine Finset.mem_map.mpr ⟨ix3 (i 1) (i 2) (i 3), Finset.mem_univ _, ?_⟩
    show (ewS s).view.emb _ = i
    rw [ewS_emb]
    funext a
    fin_cases a
    · exact Fin.ext h.symm
    all_goals rfl
theorem mem_rgSet (s : Dev nD) (i : S16x512x1.Idx) : i ∈ rgSet s ↔ (i 0).val = s.val := by
  constructor
  · intro h
    obtain ⟨x, -, hx⟩ := Finset.mem_map.mp h
    have hx' : (rgS s).view.emb x = i := hx
    rw [← hx', rgS_emb]
  · intro h
    refine Finset.mem_map.mpr ⟨ix2 (i 1) (i 2), Finset.mem_univ _, ?_⟩
    show (rgS s).view.emb _ = i
    rw [rgS_emb]
    funext a
    fin_cases a
    · exact Fin.ext h.symm
    all_goals rfl

theorem ewSet_disjoint {s t : Dev nD} (h : s ≠ t) : Disjoint (ewSet s) (ewSet t) :=
  Finset.disjoint_left.mpr fun i hs ht => h (Fin.ext (((mem_ewSet s i).mp hs).symm.trans ((mem_ewSet t i).mp ht)))
theorem rgSet_disjoint {s t : Dev nD} (h : s ≠ t) : Disjoint (rgSet s) (rgSet t) :=
  Finset.disjoint_left.mpr fun i hs ht => h (Fin.ext (((mem_rgSet s i).mp hs).symm.trans ((mem_rgSet t i).mp ht)))
theorem ewSet_cover : (Finset.univ : Finset (Dev nD)).biUnion ewSet = Finset.univ :=
  Finset.eq_univ_of_forall fun i => Finset.mem_biUnion.mpr ⟨⟨(i 0).val, (i 0).isLt⟩, Finset.mem_univ _, (mem_ewSet _ i).mpr rfl⟩
theorem rgSet_cover : (Finset.univ : Finset (Dev nD)).biUnion rgSet = Finset.univ :=
  Finset.eq_univ_of_forall fun i => Finset.mem_biUnion.mpr ⟨⟨(i 0).val, (i 0).isLt⟩, Finset.mem_univ _, (mem_rgSet _ i).mpr rfl⟩

/-! ## A buffer whose every slot holds its device's block -/

section Contents
variable (w : Dev nD → Vec F S2x256x512 .f32) (r : Dev nD → Vec F S512x1 .i32)

/-- The gathered weights, the gathered routing. -/
def gw : Vec F S16x2x256x512 .f32 := fun i => w ⟨(i 0).val, (i 0).isLt⟩ (ix3 (i 1) (i 2) (i 3))
def gr : Vec F S16x512x1 .i32 := fun i => r ⟨(i 0).val, (i 0).isLt⟩ (ix2 (i 1) (i 2))

omit [FloatOps F] in
/-- Slot `s` of it read is device `s`'s block. -/
theorem read_gw (s : Dev nD) : (ewS s).view.read (Elt F) (gw w) = w s := by
  funext x
  rw [View.read_apply, ewS_emb]
  have hx : ix3 (x 0) (x 1) (x 2) = x := by funext a; fin_cases a <;> rfl
  exact congrArg (w s) hx
omit [FloatOps F] in
theorem read_gr (s : Dev nD) : (rgS s).view.read (Elt F) (gr r) = r s := by
  funext x
  rw [View.read_apply, rgS_emb]
  have hx : ix2 (x 0) (x 1) = x := by funext a; fin_cases a <;> rfl
  exact congrArg (r s) hx

omit [FloatOps F] in
/-- Writing device `s`'s block over slot `s` leaves the gathered contents there. -/
theorem write_gw (s : Dev nD) (f : Vec F S16x2x256x512 .f32) : ∀ i ∈ ewSet s, (ewS s).view.write (Elt F) f (w s) Finset.univ i = gw w i := by
  intro i hi
  obtain ⟨x, -, hx⟩ := Finset.mem_map.mp hi
  have hx' : (ewS s).view.emb x = i := hx
  rw [← hx', View.write_emb_of_mem _ _ (Finset.mem_univ x)]
  have h := congrFun (read_gw w s) x
  rw [View.read_apply] at h
  rw [← h]; rfl
omit [FloatOps F] in
theorem write_gr (s : Dev nD) (f : Vec F S16x512x1 .i32) : ∀ i ∈ rgSet s, (rgS s).view.write (Elt F) f (r s) Finset.univ i = gr r i := by
  intro i hi
  obtain ⟨x, -, hx⟩ := Finset.mem_map.mp hi
  have hx' : (rgS s).view.emb x = i := hx
  rw [← hx', View.write_emb_of_mem _ _ (Finset.mem_univ x)]
  have h := congrFun (read_gr r s) x
  rw [View.read_apply] at h
  rw [← h]; rfl

omit [FloatOps F] in
/-- A load of slot `s` finds device `s`'s block. -/
theorem slotW_gw (s : Dev nD) :
    slotW (ewM.view.readAt (Elt F) (Rect.unit (s := S16x2x256x512) ![s.val, 0, 0, 0] S1x2x256x512.size (ew_inb s)).toLoadRect (gw w)) = w s := by
  rw [← read_gw w s]; rfl
end Contents

/-- A load of slot `s` reads elements of the slot. -/
theorem slot_load_subset (s : Dev nD) :
    ewM.view.setOn (Rect.unit (s := S16x2x256x512) ![s.val, 0, 0, 0] S1x2x256x512.size (ew_inb s)).toLoadRect.set ⊆ ewSet s := by
  exact (Finset.Subset.antisymm_iff.mp ((View.set_slice ewM.view _).symm.trans (View.set_reshape _ _).symm)).1

end Cert.KernelIdeal.Moe

end
-- ==== Proof.Schedule.lean ====
/-
# Who waits for what

Every copy has a semaphore of its own, used once: one round, one duty, paid by the copy, of the amount of a slot of weights
or of routing. A device waits

* on the semaphores of its own two copies (numbers 64, 65), which hand back the block and hand over the slot filled;
* on the barrier, where its right neighbour's signal hands over the slots there that the device's hops to the right will
  write, and its left neighbour's signal those that its hops to the left will write;
* in hop `h`, on the two semaphores of each copy it sent, which hand back the share of the slot that was lent, and on the two
  of each copy its neighbours sent, which hand over the slot filled with its device's block.

A device's own copies and the staging are at level 0, the barrier at level 1, hop `h`'s semaphores at level `h + 2`: at each wait
the device owes only semaphores of a higher level, those of its later hops.
-/
module

public import proofs.«01_k».proof.Proof.Slots
public import Idealize.ShloMosaic.Lib.Pipeline.Launch
public import Idealize.ShloMosaic.Lib.Pipeline.Kit

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `k` places to the left, to the right. -/
def bk (c : Dev nD) (k : ℕ) : Dev nD := ⟨(c.val + 32 - k) % 16, Nat.mod_lt _ (by decide)⟩
def fd (c : Dev nD) (k : ℕ) : Dev nD := ⟨(c.val + k) % 16, Nat.mod_lt _ (by decide)⟩

theorem lt16 (c : Dev nD) : c.val < 16 := c.isLt
theorem bk_zero (c : Dev nD) : bk c 0 = c := by have := lt16 c; apply Fin.ext; simp only [bk]; omega
theorem fd_zero (c : Dev nD) : fd c 0 = c := by have := lt16 c; apply Fin.ext; simp only [fd]; omega
/-- What lies `k + 1` to the left of the right neighbour lies `k` to the left. -/
theorem bk_right (c : Dev nD) {k : ℕ} (hk : k ≤ 8) : bk (fd c 1) (k + 1) = bk c k := by
  have := lt16 c; apply Fin.ext; simp only [bk, fd]; omega
theorem fd_left (c : Dev nD) {k : ℕ} (hk : k ≤ 8) : fd (bk c 1) (k + 1) = fd c k := by
  have := lt16 c; apply Fin.ext; simp only [bk, fd]; omega
theorem bk_left (c : Dev nD) {k : ℕ} (hk : k ≤ 8) : bk (bk c 1) k = bk c (k + 1) := by
  have := lt16 c; apply Fin.ext; simp only [bk]; omega
theorem fd_right (c : Dev nD) {k : ℕ} (hk : k ≤ 8) : fd (fd c 1) k = fd c (k + 1) := by
  have := lt16 c; apply Fin.ext; simp only [fd]; omega
theorem left_right (c : Dev nD) : bk (fd c 1) 1 = c := by have := lt16 c; apply Fin.ext; simp only [bk, fd]; omega
theorem right_left (c : Dev nD) : fd (bk c 1) 1 = c := by have := lt16 c; apply Fin.ext; simp only [bk, fd]; omega

/-! ## The buffers' points-to facts -/

/-- Slot `s` of device `c`'s gather buffers, a share `q` of it, at contents `f`. -/
def ewPts (q : PosShare TreeShare) (c s : Dev nD) (f : Vec F S16x2x256x512 .f32) : sProp 𝕄 :=
  (((c : Thread nD τ).loc cc0_scratch0) ↦[ewSet s]{q} f)
def rgPts (q : PosShare TreeShare) (c s : Dev nD) (f : Vec F S16x512x1 .i32) : sProp 𝕄 :=
  (((c : Thread nD τ).loc cc0_scratch1) ↦[rgSet s]{q} f)
def wPts (c : Dev nD) (f : Vec F S2x256x512 .f32) : sProp 𝕄 := (((c : Thread nD τ).loc cc0_stg2_0) ↦{fullShare} f)
def riPts (c : Dev nD) (f : Vec F S512x1 .i32) : sProp 𝕄 := (((c : Thread nD τ).loc cc0_stg1_0) ↦{fullShare} f)

/-- Both buffers' slot `s` on `c`, at any contents: a place to copy to. -/
def room (c s : Dev nD) : sProp 𝕄 := iprop((∃ f, ewPts fullShare c s f) ∗ (∃ f, rgPts fullShare c s f))

omit [FloatOps F] in
theorem ewPts_halves (c s : Dev nD) (f : Vec F S16x2x256x512 .f32) :
    (ewPts fullShare c s f : sProp 𝕄) ⊣⊢ iprop(ewPts fullShare.left c s f ∗ ewPts fullShare.right c s f) :=
  pointsTo_share (PosShare.mem_left_op_right fullShare)
omit [FloatOps F] in
theorem rgPts_halves (c s : Dev nD) (f : Vec F S16x512x1 .i32) :
    (rgPts fullShare c s f : sProp 𝕄) ⊣⊢ iprop(rgPts fullShare.left c s f ∗ rgPts fullShare.right c s f) :=
  pointsTo_share (PosShare.mem_left_op_right fullShare)

/-! ## The schedule -/

/-- What a slot of weights, of routing credits. -/
def NE : ℕ := (ewS 0).view.dmaCredit
def NR : ℕ := (rgS 0).view.dmaCredit
theorem NE_pos : 0 < NE := View.dmaCredit_pos _ (by decide)
theorem NR_pos : 0 < NR := View.dmaCredit_pos _ (by decide)

/-- The amount of a copy's semaphore. -/
def amt (q : DmaSem sig) : ℕ := if q.val < 34 ∨ q.val = 64 then NE else NR
theorem amt_pos (q : DmaSem sig) : 0 < amt q := by unfold amt; split; exacts [NE_pos, NR_pos]

section
variable (w : Dev nD → Vec F S2x256x512 .f32) (r : Dev nD → Vec F S512x1 .i32)

/-- Slot `s` on `c` with device `s`'s block in it. -/
abbrev ewGot (q : PosShare TreeShare) (c s : Dev nD) : sProp 𝕄 := ewPts q c s (gw w)
abbrev rgGot (q : PosShare TreeShare) (c s : Dev nD) : sProp 𝕄 := rgPts q c s (gr r)

/-- What a copy's semaphore hands over, by its number. -/
def pay (c : Dev nD) (q : ℕ) : sProp 𝕄 :=
  if q < 11 then ewGot w fullShare.left c (bk c (q - 4))
  else if q < 18 then ewGot w fullShare c (bk c (q - 11 + 1))
  else if q < 26 then ewGot w fullShare.right c (fd c (q - 18))
  else if q < 34 then ewGot w fullShare c (fd c (q - 26 + 1))
  else if q < 41 then rgGot r fullShare.left c (bk c (q - 34))
  else if q < 48 then rgGot r fullShare c (bk c (q - 41 + 1))
  else if q < 56 then rgGot r fullShare.right c (fd c (q - 48))
  else if q < 64 then rgGot r fullShare c (fd c (q - 56 + 1))
  else if q < 65 then iprop(ewGot w fullShare c c ∗ wPts c (w c))
  else iprop(rgGot r fullShare c c ∗ riPts c (r c))

/-- What the right neighbour's signal, the left neighbour's signal hands over. -/
def payT (c : Dev nD) : sProp 𝕄 := bigSep Finset.univ fun h : Fin 7 => room (fd c 1) (bk c h.val)
def payF (c : Dev nD) : sProp 𝕄 := bigSep Finset.univ fun h : Fin 8 => room (bk c 1) (fd c h.val)

def Rd : Rounds.Schedule (GSem nD τ sig) Bool 𝕄 where
  duties g k := if k = 0 ∧ g.1.2 = .tc then (match g.2 with | .reg _ => Finset.univ | .dma _ => {false}) else ∅
  unitless _ := False
  amount g _ _ := match g.2 with | .reg _ => 1 | .dma q => amt q
  payload g _ d := match g.2 with | .reg _ => (if d then payT g.1.1 else payF g.1.1) | .dma q => pay w r g.1.1 q.val
  amount_pos g _ _ _ := by
    rcases g with ⟨t, q | q⟩
    · exact Nat.one_pos
    · exact amt_pos q

instance pay_storable (c : Dev nD) (q : ℕ) : BI.Storable (upEmb : UEmb _ 𝕄) (pay w r c q) := by
  unfold pay ewGot rgGot ewPts rgPts wPts riPts
  (repeat' split) <;> infer_instance
instance room_storable (c s : Dev nD) : BI.Storable (upEmb : UEmb _ 𝕄) (room (F := F) c s) := by
  unfold room ewPts rgPts; infer_instance
instance Rd_payload_storable (g : GSem nD τ sig) (k : ℕ) (d : Bool) :
    BI.Storable (upEmb : UEmb _ 𝕄) ((Rd (F := F) w r).payload g k d) := by
  rcases g with ⟨t, q | q⟩
  · show BI.Storable upEmb (if d then payT t.1 else payF t.1)
    unfold payT payF
    split <;> infer_instance
  · exact pay_storable w r t.1 q.val

abbrev barCell (c : Dev nD) : GSem nD τ sig := ((c : Thread nD τ), .reg barS)
abbrev dcell (c : Dev nD) (q : DmaSem sig) : GSem nD τ sig := ((c : Thread nD τ), .dma q)

omit [FloatOps F] in
theorem duties_bar (c : Dev nD) : (Rd w r).duties (barCell c) 0 = Finset.univ := by dsimp only [Rd]; rw [if_pos ⟨rfl, rfl⟩]
omit [FloatOps F] in
theorem duties_dma (c : Dev nD) (q : DmaSem sig) : (Rd w r).duties (dcell c q) 0 = {false} := by dsimp only [Rd]; rw [if_pos ⟨rfl, rfl⟩]
omit [FloatOps F] in
theorem duty_dma (c : Dev nD) (q : DmaSem sig) : false ∈ (Rd w r).duties (dcell c q) 0 := by rw [duties_dma]; exact Finset.mem_singleton_self _
omit [FloatOps F] in
theorem duties_later (g : GSem nD τ sig) : ∀ k, 1 ≤ k → (Rd w r).duties g k = ∅ :=
  fun k hk => if_neg fun h => by omega
omit [FloatOps F] in
theorem expect_bar (c : Dev nD) : (Rd w r).expect (barCell c) 0 = 2 := by
  unfold Schedule.expect Schedule.amountOf
  rw [duties_bar]; rfl
omit [FloatOps F] in
theorem expect_dma (c : Dev nD) (q : DmaSem sig) : (Rd w r).expect (dcell c q) 0 = amt q := by
  unfold Schedule.expect Schedule.amountOf
  rw [duties_dma, Finset.sum_singleton]; rfl
omit [FloatOps F] in
theorem rest_bar (c : Dev nD) : bigSep ((Rd w r).duties (barCell c) 0 \ ∅) (fun d => (Rd w r).payload (barCell c) 0 d) = iprop(payF (F := F) c ∗ payT c) := by
  rw [Finset.sdiff_empty, duties_bar, bigSep_univ_eq_bigSepL [false, true] (by decide) (by decide), bigSepL_cons_cons, bigSepL_singleton]
  rfl
omit [FloatOps F] in
theorem rest_dma (c : Dev nD) (q : DmaSem sig) :
    bigSep ((Rd w r).duties (dcell c q) 0 \ ∅) (fun d => (Rd w r).payload (dcell c q) 0 d) = pay w r c q.val := by
  rw [Finset.sdiff_empty, duties_dma, bigSep_singleton]; rfl

/-! ### The payloads, hop by hop -/

omit [FloatOps F] in
theorem pay_fwS (c : Dev nD) (h : Fin 7) : pay w r c (fwS h).val = ewGot w fullShare.left c (bk c h.val) := by
  have := h.isLt; unfold pay; simp only []
  rw [if_pos (by omega), show 4 + h.val - 4 = h.val by omega]
omit [FloatOps F] in
theorem pay_fwR (c : Dev nD) (h : Fin 7) : pay w r c (fwR h).val = ewGot w fullShare c (bk c (h.val + 1)) := by
  have := h.isLt; unfold pay; simp only []
  rw [if_neg (by omega), if_pos (by omega), show 11 + h.val - 11 + 1 = h.val + 1 by omega]
omit [FloatOps F] in
theorem pay_bwS (c : Dev nD) (h : Fin 8) : pay w r c (bwS h).val = ewGot w fullShare.right c (fd c h.val) := by
  have := h.isLt; unfold pay; simp only []
  rw [if_neg (by omega), if_neg (by omega), if_pos (by omega), show 18 + h.val - 18 = h.val by omega]
omit [FloatOps F] in
theorem pay_bwR (c : Dev nD) (h : Fin 8) : pay w r c (bwR h).val = ewGot w fullShare c (fd c (h.val + 1)) := by
  have := h.isLt; unfold pay; simp only []
  rw [if_neg (by omega), if_neg (by omega), if_neg (by omega), if_pos (by omega), show 26 + h.val - 26 + 1 = h.val + 1 by omega]
omit [FloatOps F] in
theorem pay_frS (c : Dev nD) (h : Fin 7) : pay w r c (frS h).val = rgGot r fullShare.left c (bk c h.val) := by
  have := h.isLt; unfold pay; simp only []
  rw [if_neg (by omega), if_neg (by omega), if_neg (by omega), if_neg (by omega), if_pos (by omega), show 34 + h.val - 34 = h.val by omega]
omit [FloatOps F] in
theorem pay_frR (c : Dev nD) (h : Fin 7) : pay w r c (frR h).val = rgGot r fullShare c (bk c (h.val + 1)) := by
  have := h.isLt; unfold pay; simp only []
  rw [if_neg (by omega), if_neg (by omega), if_neg (by omega), if_neg (by omega), if_neg (by omega), if_pos (by omega), show 41 + h.val - 41 + 1 = h.val + 1 by omega]
omit [FloatOps F] in
theorem pay_brS (c : Dev nD) (h : Fin 8) : pay w r c (brS h).val = rgGot r fullShare.right c (fd c h.val) := by
  have := h.isLt; unfold pay; simp only []
  rw [if_neg (by omega), if_neg (by omega), if_neg (by omega), if_neg (by omega), if_neg (by omega), if_neg (by omega), if_pos (by omega),
    show 48 + h.val - 48 = h.val by omega]
omit [FloatOps F] in
theorem pay_brR (c : Dev nD) (h : Fin 8) : pay w r c (brR h).val = rgGot r fullShare c (fd c (h.val + 1)) := by
  have := h.isLt; unfold pay; simp only []
  rw [if_neg (by omega), if_neg (by omega), if_neg (by omega), if_neg (by omega), if_neg (by omega), if_neg (by omega), if_neg (by omega), if_pos (by omega),
    show 56 + h.val - 56 + 1 = h.val + 1 by omega]
omit [FloatOps F] in
theorem pay_own0 (c : Dev nD) : pay w r c own0.val = iprop(ewGot w fullShare c c ∗ wPts c (w c)) := rfl
omit [FloatOps F] in
theorem pay_own1 (c : Dev nD) : pay w r c own1.val = iprop(rgGot r fullShare c c ∗ riPts c (r c)) := rfl

theorem amt_fwS (h : Fin 7) : amt (fwS h) = NE := by have := h.isLt; exact if_pos (Or.inl (by show 4 + h.val < 34; omega))
theorem amt_fwR (h : Fin 7) : amt (fwR h) = NE := by have := h.isLt; exact if_pos (Or.inl (by show 11 + h.val < 34; omega))
theorem amt_bwS (h : Fin 8) : amt (bwS h) = NE := by have := h.isLt; exact if_pos (Or.inl (by show 18 + h.val < 34; omega))
theorem amt_bwR (h : Fin 8) : amt (bwR h) = NE := by have := h.isLt; exact if_pos (Or.inl (by show 26 + h.val < 34; omega))
theorem amt_frS (h : Fin 7) : amt (frS h) = NR := by have := h.isLt; exact if_neg (by show ¬ (34 + h.val < 34 ∨ 34 + h.val = 64); omega)
theorem amt_frR (h : Fin 7) : amt (frR h) = NR := by have := h.isLt; exact if_neg (by show ¬ (41 + h.val < 34 ∨ 41 + h.val = 64); omega)
theorem amt_brS (h : Fin 8) : amt (brS h) = NR := by have := h.isLt; exact if_neg (by show ¬ (48 + h.val < 34 ∨ 48 + h.val = 64); omega)
theorem amt_brR (h : Fin 8) : amt (brR h) = NR := by have := h.isLt; exact if_neg (by show ¬ (56 + h.val < 34 ∨ 56 + h.val = 64); omega)
theorem amt_own0 : amt own0 = NE := if_pos (Or.inr rfl)
theorem amt_own1 : amt own1 = NR := if_neg (by decide)

end

/-! ## What is owed, and the levels -/

/-- What device `c`'s copies of hop `h` to the right, to the left will credit. -/
def owedF (c : Dev nD) (h : Fin 7) : CellTallies nD τ sig Unit := tallyAt (dcell (fd c 1) (frR h)) () NR + tallyAt (dcell (fd c 1) (fwR h)) () NE
def owedB (c : Dev nD) (h : Fin 8) : CellTallies nD τ sig Unit := tallyAt (dcell (bk c 1) (brR h)) () NR + tallyAt (dcell (bk c 1) (bwR h)) () NE
/-- What its hop `n` will. -/
def owedAt (c : Dev nD) (n : ℕ) : CellTallies nD τ sig Unit :=
  (if h : n < 8 then owedB c ⟨n, h⟩ else 0) + (if h : n < 7 then owedF c ⟨n, h⟩ else 0)
/-- What its hops from `n` on will. -/
def debt (c : Dev nD) (n : ℕ) : CellTallies nD τ sig Unit := ∑ k ∈ Finset.range (8 - n), owedAt c (7 - k)

theorem debt_step (c : Dev nD) (n : ℕ) (hn : n < 8) : debt c n = debt c (n + 1) + owedAt c n := by
  unfold debt
  rw [show 8 - n = (8 - (n + 1)) + 1 by omega, Finset.sum_range_succ, show 7 - (8 - (n + 1)) = n by omega]
theorem debt_last (c : Dev nD) : debt c 8 = 0 := rfl
theorem debt_hop (c : Dev nD) (h : Fin 7) : debt c h.val = debt c (h.val + 1) + owedB c h.castSucc + owedF c h := by
  have := h.isLt
  rw [debt_step c h.val (by omega)]; unfold owedAt
  rw [dif_pos (by omega), dif_pos this, add_assoc]; rfl
theorem debt_seven (c : Dev nD) : debt c 7 = 0 + owedB c 7 := by
  rw [debt_step c 7 (by omega), debt_last]; unfold owedAt
  rw [dif_pos (by omega), dif_neg (by omega), add_zero]; rfl

/-- What a device owes when it enters: all its hops' copies and its two signals. -/
def O₁ (c : Dev nD) : CellTallies nD τ sig Unit := debt c 0 + tallyAt (barCell (fd c 1)) () 1
def O₀ (c : Dev nD) : CellTallies nD τ sig Unit := O₁ c + tallyAt (barCell (bk c 1)) () 1

def L (g : GSem nD τ sig) : Finset Unit := if g.1.2 = .tc then {()} else ∅
/-- The level of a copy's semaphore, by its number. -/
def lvq (q : ℕ) : ℕ :=
  if q < 4 then 0 else if q < 11 then q - 2 else if q < 18 then q - 9 else if q < 26 then q - 16 else if q < 34 then q - 24
  else if q < 41 then q - 32 else if q < 48 then q - 39 else if q < 56 then q - 46 else if q < 64 then q - 54 else 0
def lv (g : GSem nD τ sig) (_ : Unit) : ℕ := match g.2 with | .reg _ => 1 | .dma q => lvq q.val

theorem L_of_ne (g : GSem nD τ sig) (h : g.1.2 ≠ .tc) : L g = ∅ := if_neg h
theorem L_tc (c : Dev nD) (sm : SemLoc sig) : L ((c : Thread nD τ), sm) = {()} := if_pos rfl

/-- Every semaphore owed is a TensorCore's, of level at least `b`. -/
def Above (b : ℕ) (O : CellTallies nD τ sig Unit) : Prop := ∀ g u, 0 < O g u → g.1.2 = .tc ∧ b ≤ lv g u

theorem Above.zero (b : ℕ) : Above b 0 := fun g u h => absurd h (Nat.lt_irrefl 0)
theorem Above.add {b : ℕ} {O O' : CellTallies nD τ sig Unit} (h : Above b O) (h' : Above b O') : Above b (O + O') := fun g u hg => by
  rw [Pi.add_apply, Finsupp.add_apply] at hg
  rcases Nat.pos_of_ne_zero (fun e : O g u + O' g u = 0 => absurd hg (e ▸ Nat.lt_irrefl 0)) with _
  by_cases h0 : 0 < O g u
  · exact h g u h0
  · exact h' g u (by omega)
theorem Above.tally {b : ℕ} (c : Dev nD) (sm : SemLoc sig) (n : ℕ) (hb : b ≤ lv ((c : Thread nD τ), sm) ()) : Above b (tallyAt ((c : Thread nD τ), sm) () n) :=
  fun g u hg => by
    rw [tallyAt_apply] at hg
    by_cases h : g = ((c : Thread nD τ), sm) ∧ u = ()
    · rw [h.1]; exact ⟨rfl, hb⟩
    · rw [if_neg h] at hg; exact absurd hg (Nat.lt_irrefl 0)
theorem Above.mono {b b' : ℕ} {O : CellTallies nD τ sig Unit} (h : Above b O) (hb : b' ≤ b) : Above b' O :=
  fun g u hg => ⟨(h g u hg).1, hb.trans (h g u hg).2⟩

theorem lvq_F (h : Fin 7) : lvq (fwS h).val = h.val + 2 ∧ lvq (fwR h).val = h.val + 2 ∧ lvq (frS h).val = h.val + 2 ∧ lvq (frR h).val = h.val + 2 := by
  revert h; decide
theorem lvq_B (h : Fin 8) : lvq (bwS h).val = h.val + 2 ∧ lvq (bwR h).val = h.val + 2 ∧ lvq (brS h).val = h.val + 2 ∧ lvq (brR h).val = h.val + 2 := by
  revert h; decide

theorem above_owedAt (c : Dev nD) (n : ℕ) : Above (n + 2) (owedAt c n) := by
  unfold owedAt owedF owedB
  refine Above.add ?_ ?_
  · split
    · rename_i h
      exact (Above.tally _ _ _ (lvq_B ⟨n, h⟩).2.2.2.ge).add (Above.tally _ _ _ (lvq_B ⟨n, h⟩).2.1.ge)
    · exact Above.zero _
  · split
    · rename_i h
      exact (Above.tally _ _ _ (lvq_F ⟨n, h⟩).2.2.2.ge).add (Above.tally _ _ _ (lvq_F ⟨n, h⟩).2.1.ge)
    · exact Above.zero _
/-- The hops from `n` on owe levels `n + 2` and higher. -/
theorem above_debt (c : Dev nD) (n : ℕ) : Above (n + 2) (debt c n) := by
  unfold debt
  refine Finset.sum_induction _ (Above (n + 2)) (fun _ _ => Above.add) (Above.zero _) fun k hk => ?_
  have := Finset.mem_range.mp hk
  exact (above_owedAt c (7 - k)).mono (by omega)
theorem above_O₀ (c : Dev nD) : Above 1 (O₀ c) :=
  (((above_debt c 0).mono (b' := 1) (by omega)).add (Above.tally (fd c 1) (.reg barS) 1 (Nat.le_refl 1))).add (Above.tally (bk c 1) (.reg barS) 1 (Nat.le_refl 1))

omit [FloatOps F] in
/-- A device may wait on a semaphore of a lower level than all it owes. -/
theorem mayWait (c : Dev nD) (sm : SemLoc sig) (b : ℕ) (hb : lv ((c : Thread nD τ), sm) () ≤ b) {O : CellTallies nD τ sig Unit} (hO : Above (b + 1) O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

end Cert.KernelIdeal.Moe

end
-- ==== Proof.Steps.lean ====
/-
# Sending a slot, waiting for one, loading one

The rules for one copy of a slot to a neighbour and for one wait, generic in the slot, the neighbour and the semaphores, and
from them the rules for the parts of a hop: its sends, its waits for what it sent and for what it gets, its loads.
-/
module

public import proofs.«01_k».proof.Proof.Schedule

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program on device `c`'s TensorCore. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited on. -/
def ow (c : Dev nD) (O : CellTallies nD τ sig Unit) : sProp 𝕄 := iprop(∃ W, owes (c : Thread nD τ) O W)

variable (w : Dev nD → Vec F S2x256x512 .f32) (r : Dev nD → Vec F S512x1 .i32)

/-- A semaphore's cell follows the schedule and has reached its round. -/
def known (g : GSem nD τ sig) : sProp 𝕄 := iprop((∃ κ : ℕ, cellInv ER (Rd w r) κ g) ∗ reached ER g 0)
instance known_persistent (g : GSem nD τ sig) : BI.Persistent (known w r g) := by unfold known; infer_instance

/-- The own semaphores of the kernel, and the barrier. -/
def csem (k : Fin 63) : SemLoc sig := if h : k.val < 62 then .dma ⟨4 + k.val, by show 4 + k.val < 66; omega⟩ else .reg barS
abbrev kcell (ck : Dev nD × Fin 63) : GSem nD τ sig := ((ck.1 : Thread nD τ), csem ck.2)

/-- Every device's every cell is known. -/
def records : sProp 𝕄 := bigSep Finset.univ fun ck : Dev nD × Fin 63 => known w r (kcell ck)
instance records_persistent : BI.Persistent (records w r) := by unfold records; infer_instance

theorem records_dma (c : Dev nD) (q : DmaSem sig) (hq : 4 ≤ q.val) : records w r ⊢ known w r (dcell c q) := by
  have hlt : q.val < 66 := q.isLt
  have e : kcell (c, ⟨q.val - 4, by omega⟩) = dcell c q := by
    unfold kcell csem
    rw [dif_pos (show q.val - 4 < 62 by omega)]
    refine congrArg (fun x : DmaSem sig => ((c : Thread nD τ), SemLoc.dma x)) (Fin.ext ?_)
    show 4 + (q.val - 4) = q.val; omega
  unfold records
  exact (bigSep_elim (Finset.mem_univ (c, (⟨q.val - 4, by omega⟩ : Fin 63)))).trans (Entails.of_eq (congrArg (known w r) e))
theorem records_bar (c : Dev nD) : records w r ⊢ known w r (barCell c) :=
  bigSep_elim (Finset.mem_univ (c, (62 : Fin 63)))

/-! ## One copy -/

/-- A slot of weights to a neighbour: the share lent goes to the send semaphore, the slot filled to the neighbour's. -/
theorem wp_send_ew (c n n' s : Dev nD) (hn : n' = n) {off : Fin 4 → Nat} {hin : ∀ a, off a + S1x2x256x512.size a ≤ S16x2x256x512.size a}
    (hoff : off = ![s.val, 0, 0, 0]) (q : PosShare TreeShare) (sS sR : DmaSem sig)
    (h₁ : pay w r c sS.val = ewGot w q c s) (h₂ : pay w r n sR.val = ewGot w fullShare n s) (a₁ : amt sS = NE) (a₂ : amt sR = NE)
    (O : CellTallies nD τ sig Unit)
    {hsc : (ewAt off hin : Memref sig (Dev.tc n' : Thread nD τ).2.kind .vmem S2x256x512 .f32).view.ref.isScScratch = false}
    {hsrc : (ewAt off hin).view.WordExact} {hdst : (ewAt off hin).view.WordExact}
    {hsem : DmaTarget.Typed .vmem (.dma sR) (.remote (Dev.tc n' : Thread nD τ) (ewAt off hin) (.dma sS) hsc)}
    {α : Type} {Q : α → sProp 𝕄} {k : PUnit → Prog (TpuEff nD τ sig (Elt F) Λ₀ .tc) α} :
    iprop(known w r (dcell c sS) ∗ known w r (dcell n sR) ∗ ewGot w q c s ∗ (∃ f, ewPts fullShare n s f)
        ∗ ow c (O + tallyAt (dcell n sR) () NE) ∗ dutyTok ER (dcell c sS) 0 false ∗ dutyTok ER (dcell n sR) 0 false)
      ⊢ iprop(((cred (tallyAt (dcell c sS) () NE) ∗ ow c O) -∗ wpc c (k ⟨⟩) Q)
          -∗ wpc c (.op (.enqueueDma (ewAt off hin) (.remote (Dev.tc n' : Thread nD τ) (ewAt off hin) (.dma sS) hsc) (.dma sR) hsrc hdst hsem) k) Q) := by
  subst hn; subst hoff
  unfold known ow ewGot ewPts
  iintro ⟨⟨⟨%κ₁, #HI₁⟩, #HR₁⟩, ⟨⟨%κ₂, #HI₂⟩, #HR₂⟩, Hs, ⟨%f, Hd⟩, ⟨%W, HO⟩, Ht₁, Ht₂⟩ Hk
  iapply (Rounds.wp_send_pointsTo 𝒱₀ ER (Rd w r) (c : Thread nD τ) none (c' := (Dev.tc n' : Thread nD τ)) (κ₁ := κ₁) (κ₂ := κ₂) (r₁ := 0) (r₂ := 0) (d₁ := false) (d₂ := false)
      (src := ewS s) (dst := ewS s) (q := q) (fs := gw w) (fd := f)
      (duty_dma w r c sS) (duty_dma w r n' sR) () () NE rfl a₁ a₂ O rfl (W := W)
      (Entails.of_eq h₁.symm)
      ((Entails.of_eq (by
        rw [read_gw]
        exact pointsTo_congr (write_gw w s f))).trans (Entails.of_eq h₂.symm))) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hc, HO⟩
  iapply Hk
  isplitl [Hc]; · iexact Hc
  iexists W; iexact HO

/-- A slot of routing to a neighbour. -/
theorem wp_send_rg (c n n' s : Dev nD) (hn : n' = n) {off : Fin 3 → Nat} {hin : ∀ a, off a + S1x512x1.size a ≤ S16x512x1.size a}
    (hoff : off = ![s.val, 0, 0]) (q : PosShare TreeShare) (sS sR : DmaSem sig)
    (h₁ : pay w r c sS.val = rgGot r q c s) (h₂ : pay w r n sR.val = rgGot r fullShare n s) (a₁ : amt sS = NR) (a₂ : amt sR = NR)
    (O : CellTallies nD τ sig Unit)
    {hsc : (rgAt off hin : Memref sig (Dev.tc n' : Thread nD τ).2.kind .vmem S512x1 .i32).view.ref.isScScratch = false}
    {hsrc : (rgAt off hin).view.WordExact} {hdst : (rgAt off hin).view.WordExact}
    {hsem : DmaTarget.Typed .vmem (.dma sR) (.remote (Dev.tc n' : Thread nD τ) (rgAt off hin) (.dma sS) hsc)}
    {α : Type} {Q : α → sProp 𝕄} {k : PUnit → Prog (TpuEff nD τ sig (Elt F) Λ₀ .tc) α} :
    iprop(known w r (dcell c sS) ∗ known w r (dcell n sR) ∗ rgGot r q c s ∗ (∃ f, rgPts fullShare n s f)
        ∗ ow c (O + tallyAt (dcell n sR) () NR) ∗ dutyTok ER (dcell c sS) 0 false ∗ dutyTok ER (dcell n sR) 0 false)
      ⊢ iprop(((cred (tallyAt (dcell c sS) () NR) ∗ ow c O) -∗ wpc c (k ⟨⟩) Q)
          -∗ wpc c (.op (.enqueueDma (rgAt off hin) (.remote (Dev.tc n' : Thread nD τ) (rgAt off hin) (.dma sS) hsc) (.dma sR) hsrc hdst hsem) k) Q) := by
  subst hn; subst hoff
  unfold known ow rgGot rgPts
  iintro ⟨⟨⟨%κ₁, #HI₁⟩, #HR₁⟩, ⟨⟨%κ₂, #HI₂⟩, #HR₂⟩, Hs, ⟨%f, Hd⟩, ⟨%W, HO⟩, Ht₁, Ht₂⟩ Hk
  iapply (Rounds.wp_send_pointsTo 𝒱₀ ER (Rd w r) (c : Thread nD τ) none (c' := (Dev.tc n' : Thread nD τ)) (κ₁ := κ₁) (κ₂ := κ₂) (r₁ := 0) (r₂ := 0) (d₁ := false) (d₂ := false)
      (src := rgS s) (dst := rgS s) (q := q) (fs := gr r) (fd := f)
      (duty_dma w r c sS) (duty_dma w r n' sR) () () NR rfl a₁ a₂ O rfl (W := W)
      (Entails.of_eq h₁.symm)
      ((Entails.of_eq (by
        rw [read_gr]
        exact pointsTo_congr (write_gr r s f))).trans (Entails.of_eq h₂.symm))) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hc, HO⟩
  iapply Hk
  isplitl [Hc]; · iexact Hc
  iexists W; iexact HO

/-! ## One wait -/

/-- A wait for a copy: what the copy hands over, and the semaphore at zero for good. -/
theorem wp_wait_dma (c : Dev nD) (q : DmaSem sig) (O : CellTallies nD τ sig Unit) (hO : Above (lvq q.val + 1) O)
    {sp sp' : Space} {s s' : Shape} {e e' : EltTy} {src : Memref sig .tc sp s e} {dst : Memref sig .tc sp' s' e'} {hsrc : src.view.WordExact} {hdst : dst.view.WordExact}
    (hN : dst.view.dmaCredit = amt q)
    {α : Type} {Q : α → sProp 𝕄} {k : PUnit → Prog (TpuEff nD τ sig (Elt F) Λ₀ .tc) α} :
    iprop(known w r (dcell c q) ∗ levAts L lv ∗ cred (tallyAt (dcell c q) () (amt q)) ∗ ow c O ∗ atPos ER (dcell c q) 0 ∅ 0)
      ⊢ iprop(((ow c O ∗ pay w r c q.val ∗ semVal (dcell c q) 0) -∗ wpc c (k ⟨⟩) Q)
          -∗ wpc c (.op (.waitDma2 q src dst hsrc hdst) k) Q) := by
  unfold known ow
  iintro ⟨⟨⟨%κ, #HI⟩, #HR⟩, #Hlev, Hc, ⟨%W, HO⟩, Hat⟩ Hk
  iapply (Rounds.wp_wait_rest_token 𝒱₀ ER (Rd w r) (c : Thread nD τ) none (κ := κ)
      (wpE_waitDma2_eq 𝒱₀ (c : Thread nD τ) none Set.univ) (Set.mem_univ _) () (O := O) (W := W) (R := 0) (m := 0) (T := ∅)
      (by rw [Nat.zero_add, hN, expect_dma])) $$ [Hc HO Hat]
  · isplitr; · iexact HI
    isplitl [Hc]; · rw [hN]; iexact Hc
    isplitl [HO]; · iexact HO
    isplitr; · iapply (mayWait c (.dma q) (lvq q.val) (le_refl _) hO); iexact Hlev
    iexact Hat
  iintro ⟨HO, Hat, -, Hpay⟩
  imod (Rounds.cell_close ER (Rd w r) (Set.mem_univ κ) (fun h => h) (R := 0 + 1) (duties_later w r (dcell c q))) $$ [Hat] with Hz
  · isplitr; · iexact HI
    iexact Hat
  iapply Hk
  isplitl [HO]; · iexists _; iexact HO
  isplitl [Hpay]; · iapply (Entails.of_eq (rest_dma w r c q)); iexact Hpay
  iexact Hz

/-! ## The parts of a hop -/

theorem dev3_right (c : Dev nD) : (⟨k0_dev3 c, k0_dev3_lt c⟩ : Dev nD) = fd c 1 := Fin.ext (k0_dev3_eq c)
theorem dev4_right (c : Dev nD) : (⟨k0_dev4 c, k0_dev4_lt c⟩ : Dev nD) = fd c 1 := Fin.ext (k0_dev4_eq c)
theorem dev5_left (c : Dev nD) : (⟨k0_dev5 c, k0_dev5_lt c⟩ : Dev nD) = bk c 1 :=
  Fin.ext ((k0_dev5_eq c).trans (show (c.val + 15) % 16 = (c.val + 32 - 1) % 16 by omega))
theorem dev6_left (c : Dev nD) : (⟨k0_dev6 c, k0_dev6_lt c⟩ : Dev nD) = bk c 1 :=
  Fin.ext ((k0_dev6_eq c).trans (show (c.val + 15) % 16 = (c.val + 32 - 1) % 16 by omega))

/-- The duties that device `c` pays in hop `h` to the right, to the left. -/
def tokF (c : Dev nD) (h : Fin 7) : sProp 𝕄 :=
  iprop(dutyTok ER (dcell c (fwS h)) 0 false ∗ dutyTok ER (dcell c (frS h)) 0 false
    ∗ dutyTok ER (dcell (fd c 1) (fwR h)) 0 false ∗ dutyTok ER (dcell (fd c 1) (frR h)) 0 false)
def tokB (c : Dev nD) (h : Fin 8) : sProp 𝕄 :=
  iprop(dutyTok ER (dcell c (bwS h)) 0 false ∗ dutyTok ER (dcell c (brS h)) 0 false
    ∗ dutyTok ER (dcell (bk c 1) (bwR h)) 0 false ∗ dutyTok ER (dcell (bk c 1) (brR h)) 0 false)

/-- A share of both buffers' slot `s` on `c`, device `s`'s blocks in it. -/
def slot (q : PosShare TreeShare) (c s : Dev nD) : sProp 𝕄 := iprop(ewGot w q c s ∗ rgGot r q c s)

theorem slot_halves (c s : Dev nD) : slot w r fullShare c s ⊣⊢ iprop(slot w r fullShare.left c s ∗ slot w r fullShare.right c s) := by
  unfold slot
  constructor
  · iintro ⟨He, Hr⟩
    ihave He := (ewPts_halves c s (gw w)).1 $$ He
    ihave Hr := (rgPts_halves c s (gr r)).1 $$ Hr
    icases He with ⟨H1, H2⟩
    icases Hr with ⟨H3, H4⟩
    isplitl [H1 H3]
    · isplitl [H1] <;> iassumption
    · isplitl [H2] <;> iassumption
  · iintro ⟨⟨H1, H3⟩, H2, H4⟩
    isplitl [H1 H2]
    · iapply (ewPts_halves c s (gw w)).2
      isplitl [H1] <;> iassumption
    · iapply (rgPts_halves c s (gr r)).2
      isplitl [H3] <;> iassumption

theorem sendF_spec (c : Dev nD) (h : Fin 7) (O : CellTallies nD τ sig Unit) (Q : PUnit → sProp 𝕄) :
    iprop(records w r ∗ tokF c h ∗ room (fd c 1) (bk c h.val) ∗ slot w r fullShare.left c (bk c h.val) ∗ ow c (O + owedF c h))
      ⊢ iprop(((cred (tallyAt (dcell c (fwS h)) () NE) ∗ cred (tallyAt (dcell c (frS h)) () NR) ∗ ow c O) -∗ Q ⟨⟩) -∗ wpc c (sendF c h) Q) := by
  have hh := h.isLt
  unfold sendF
  simp only [Prog.lift, Prog.bind_op, Prog.bind_ret]
  unfold tokF room slot owedF
  rw [← add_assoc]
  iintro ⟨#HR, ⟨Ht1, Ht2, Ht3, Ht4⟩, ⟨Hd1, Hd2⟩, ⟨Hs1, Hs2⟩, HO⟩ Hk
  iapply (wp_send_ew w r c (fd c 1) _ (bk c h.val) (dev3_right c) (k0_off3_eq c h) fullShare.left (fwS h) (fwR h)
    (pay_fwS w r c h) (by rw [pay_fwR, bk_right c (by omega)]) (amt_fwS h) (amt_fwR h) _) $$ [Ht1 Ht3 Hd1 Hs1 HO]
  · isplitr; · iapply (records_dma w r c (fwS h) (by show 4 ≤ 4 + h.val; omega)); iexact HR
    isplitr; · iapply (records_dma w r (fd c 1) (fwR h) (by show 4 ≤ 11 + h.val; omega)); iexact HR
    isplitl [Hs1]; · iexact Hs1
    isplitl [Hd1]; · iexact Hd1
    isplitl [HO]; · iexact HO
    isplitl [Ht1]; · iexact Ht1
    iexact Ht3
  iintro ⟨Hc1, HO⟩
  iapply (wp_send_rg w r c (fd c 1) _ (bk c h.val) (dev4_right c) (k0_off4_eq c h) fullShare.left (frS h) (frR h)
    (pay_frS w r c h) (by rw [pay_frR, bk_right c (by omega)]) (amt_frS h) (amt_frR h) _) $$ [Ht2 Ht4 Hd2 Hs2 HO]
  · isplitr; · iapply (records_dma w r c (frS h) (by show 4 ≤ 34 + h.val; omega)); iexact HR
    isplitr; · iapply (records_dma w r (fd c 1) (frR h) (by show 4 ≤ 41 + h.val; omega)); iexact HR
    isplitl [Hs2]; · iexact Hs2
    isplitl [Hd2]; · iexact Hd2
    isplitl [HO]; · iexact HO
    isplitl [Ht2]; · iexact Ht2
    iexact Ht4
  iintro ⟨Hc2, HO⟩
  unfold wpc
  rw [wp_ret]; imodintro
  iapply Hk
  isplitl [Hc1]; · iexact Hc1
  isplitl [Hc2]; · iexact Hc2
  iexact HO

theorem sendB_spec (c : Dev nD) (h : Fin 8) (O : CellTallies nD τ sig Unit) (Q : PUnit → sProp 𝕄) :
    iprop(records w r ∗ tokB c h ∗ room (bk c 1) (fd c h.val) ∗ slot w r fullShare.right c (fd c h.val) ∗ ow c (O + owedB c h))
      ⊢ iprop(((cred (tallyAt (dcell c (bwS h)) () NE) ∗ cred (tallyAt (dcell c (brS h)) () NR) ∗ ow c O) -∗ Q ⟨⟩) -∗ wpc c (sendB c h) Q) := by
  have hh := h.isLt
  unfold sendB
  simp only [Prog.lift, Prog.bind_op, Prog.bind_ret]
  unfold tokB room slot owedB
  rw [← add_assoc]
  iintro ⟨#HR, ⟨Ht1, Ht2, Ht3, Ht4⟩, ⟨Hd1, Hd2⟩, ⟨Hs1, Hs2⟩, HO⟩ Hk
  iapply (wp_send_ew w r c (bk c 1) _ (fd c h.val) (dev5_left c) (k0_off5_eq c h) fullShare.right (bwS h) (bwR h)
    (pay_bwS w r c h) (by rw [pay_bwR, fd_left c (by omega)]) (amt_bwS h) (amt_bwR h) _) $$ [Ht1 Ht3 Hd1 Hs1 HO]
  · isplitr; · iapply (records_dma w r c (bwS h) (by show 4 ≤ 18 + h.val; omega)); iexact HR
    isplitr; · iapply (records_dma w r (bk c 1) (bwR h) (by show 4 ≤ 26 + h.val; omega)); iexact HR
    isplitl [Hs1]; · iexact Hs1
    isplitl [Hd1]; · iexact Hd1
    isplitl [HO]; · iexact HO
    isplitl [Ht1]; · iexact Ht1
    iexact Ht3
  iintro ⟨Hc1, HO⟩
  iapply (wp_send_rg w r c (bk c 1) _ (fd c h.val) (dev6_left c) (k0_off6_eq c h) fullShare.right (brS h) (brR h)
    (pay_brS w r c h) (by rw [pay_brR, fd_left c (by omega)]) (amt_brS h) (amt_brR h) _) $$ [Ht2 Ht4 Hd2 Hs2 HO]
  · isplitr; · iapply (records_dma w r c (brS h) (by show 4 ≤ 48 + h.val; omega)); iexact HR
    isplitr; · iapply (records_dma w r (bk c 1) (brR h) (by show 4 ≤ 56 + h.val; omega)); iexact HR
    isplitl [Hs2]; · iexact Hs2
    isplitl [Hd2]; · iexact Hd2
    isplitl [HO]; · iexact HO
    isplitl [Ht2]; · iexact Ht2
    iexact Ht4
  iintro ⟨Hc2, HO⟩
  unfold wpc
  rw [wp_ret]; imodintro
  iapply Hk
  isplitl [Hc1]; · iexact Hc1
  isplitl [Hc2]; · iexact Hc2
  iexact HO

/-- Two waits in a row, for a slot of weights and one of routing. -/
theorem wait2_spec (c : Dev nD) (q q' : DmaSem sig) (hq : 4 ≤ q.val) (hq' : 4 ≤ q'.val) (O : CellTallies nD τ sig Unit)
    (hO : Above (lvq q.val + 1) O) (hO' : Above (lvq q'.val + 1) O) (a : amt q = NE) (a' : amt q' = NR)
    {off : Fin 4 → Nat} {hin : ∀ a, off a + S1x2x256x512.size a ≤ S16x2x256x512.size a}
    {off' : Fin 3 → Nat} {hin' : ∀ a, off' a + S1x512x1.size a ≤ S16x512x1.size a} (P P' : sProp 𝕄)
    (hP : pay w r c q.val = P) (hP' : pay w r c q'.val = P') (Q : PUnit → sProp 𝕄) :
    iprop(records w r ∗ levAts L lv ∗ (cred (tallyAt (dcell c q) () NE) ∗ cred (tallyAt (dcell c q') () NR))
        ∗ (atPos ER (dcell c q) 0 ∅ 0 ∗ atPos ER (dcell c q') 0 ∅ 0) ∗ ow c O)
      ⊢ iprop((((P ∗ P') ∗ (semVal (dcell c q) 0 ∗ semVal (dcell c q') 0) ∗ ow c O) -∗ Q ⟨⟩)
          -∗ wpc c (do waitEw q off hin; waitRg q' off' hin') Q) := by
  subst hP; subst hP'
  simp only [Prog.lift, Prog.bind_op, Prog.bind_ret]
  iintro ⟨#HR, #Hlev, ⟨Hc1, Hc2⟩, ⟨Ha1, Ha2⟩, HO⟩ Hk
  iapply (wp_wait_dma w r c q O hO (src := ewAt off hin) (dst := ewAt off hin) (show _ = amt q from a.symm)) $$ [Hc1 Ha1 HO]
  · isplitr; · iapply (records_dma w r c q hq); iexact HR
    isplitr; · iexact Hlev
    isplitl [Hc1]; · rw [a]; iexact Hc1
    isplitl [HO]; · iexact HO
    iexact Ha1
  iintro ⟨HO, Hp1, Hz1⟩
  iapply (wp_wait_dma w r c q' O hO' (src := rgAt off' hin') (dst := rgAt off' hin') (show _ = amt q' from a'.symm)) $$ [Hc2 Ha2 HO]
  · isplitr; · iapply (records_dma w r c q' hq'); iexact HR
    isplitr; · iexact Hlev
    isplitl [Hc2]; · rw [a']; iexact Hc2
    isplitl [HO]; · iexact HO
    iexact Ha2
  iintro ⟨HO, Hp2, Hz2⟩
  unfold wpc
  rw [wp_ret]; imodintro
  iapply Hk
  isplitl [Hp1 Hp2]
  · isplitl [Hp1] <;> iassumption
  isplitl [Hz1 Hz2]
  · isplitl [Hz1] <;> iassumption
  iexact HO

theorem waitSentF_spec (c : Dev nD) (h : Fin 7) (O : CellTallies nD τ sig Unit) (hO : Above (h.val + 3) O) (Q : PUnit → sProp 𝕄) :
    iprop(records w r ∗ levAts L lv ∗ (cred (tallyAt (dcell c (fwS h)) () NE) ∗ cred (tallyAt (dcell c (frS h)) () NR))
        ∗ (atPos ER (dcell c (fwS h)) 0 ∅ 0 ∗ atPos ER (dcell c (frS h)) 0 ∅ 0) ∗ ow c O)
      ⊢ iprop(((slot w r fullShare.left c (bk c h.val) ∗ (semVal (dcell c (fwS h)) 0 ∗ semVal (dcell c (frS h)) 0) ∗ ow c O) -∗ Q ⟨⟩)
          -∗ wpc c (waitSentF c h) Q) :=
  wait2_spec w r c (fwS h) (frS h) (by show 4 ≤ 4 + h.val; omega) (by show 4 ≤ 34 + h.val; omega) O
    (by rw [(lvq_F h).1]; exact hO) (by rw [(lvq_F h).2.2.1]; exact hO) (amt_fwS h) (amt_frS h) _ _ (pay_fwS w r c h) (pay_frS w r c h) Q
theorem waitSentB_spec (c : Dev nD) (h : Fin 8) (O : CellTallies nD τ sig Unit) (hO : Above (h.val + 3) O) (Q : PUnit → sProp 𝕄) :
    iprop(records w r ∗ levAts L lv ∗ (cred (tallyAt (dcell c (bwS h)) () NE) ∗ cred (tallyAt (dcell c (brS h)) () NR))
        ∗ (atPos ER (dcell c (bwS h)) 0 ∅ 0 ∗ atPos ER (dcell c (brS h)) 0 ∅ 0) ∗ ow c O)
      ⊢ iprop(((slot w r fullShare.right c (fd c h.val) ∗ (semVal (dcell c (bwS h)) 0 ∗ semVal (dcell c (brS h)) 0) ∗ ow c O) -∗ Q ⟨⟩)
          -∗ wpc c (waitSentB c h) Q) :=
  wait2_spec w r c (bwS h) (brS h) (by show 4 ≤ 18 + h.val; omega) (by show 4 ≤ 48 + h.val; omega) O
    (by rw [(lvq_B h).1]; exact hO) (by rw [(lvq_B h).2.2.1]; exact hO) (amt_bwS h) (amt_brS h) _ _ (pay_bwS w r c h) (pay_brS w r c h) Q
theorem waitGotF_spec (c : Dev nD) (h : Fin 7) (O : CellTallies nD τ sig Unit) (hO : Above (h.val + 3) O) (Q : PUnit → sProp 𝕄) :
    iprop(records w r ∗ levAts L lv ∗ (cred (tallyAt (dcell c (fwR h)) () NE) ∗ cred (tallyAt (dcell c (frR h)) () NR))
        ∗ (atPos ER (dcell c (fwR h)) 0 ∅ 0 ∗ atPos ER (dcell c (frR h)) 0 ∅ 0) ∗ ow c O)
      ⊢ iprop(((slot w r fullShare c (bk c (h.val + 1)) ∗ (semVal (dcell c (fwR h)) 0 ∗ semVal (dcell c (frR h)) 0) ∗ ow c O) -∗ Q ⟨⟩)
          -∗ wpc c (waitGotF c h) Q) :=
  wait2_spec w r c (fwR h) (frR h) (by show 4 ≤ 11 + h.val; omega) (by show 4 ≤ 41 + h.val; omega) O
    (by rw [(lvq_F h).2.1]; exact hO) (by rw [(lvq_F h).2.2.2]; exact hO) (amt_fwR h) (amt_frR h) _ _ (pay_fwR w r c h) (pay_frR w r c h) Q
theorem waitGotB_spec (c : Dev nD) (h : Fin 8) (O : CellTallies nD τ sig Unit) (hO : Above (h.val + 3) O) (Q : PUnit → sProp 𝕄) :
    iprop(records w r ∗ levAts L lv ∗ (cred (tallyAt (dcell c (bwR h)) () NE) ∗ cred (tallyAt (dcell c (brR h)) () NR))
        ∗ (atPos ER (dcell c (bwR h)) 0 ∅ 0 ∗ atPos ER (dcell c (brR h)) 0 ∅ 0) ∗ ow c O)
      ⊢ iprop(((slot w r fullShare c (fd c (h.val + 1)) ∗ (semVal (dcell c (bwR h)) 0 ∗ semVal (dcell c (brR h)) 0) ∗ ow c O) -∗ Q ⟨⟩)
          -∗ wpc c (waitGotB c h) Q) :=
  wait2_spec w r c (bwR h) (brR h) (by show 4 ≤ 26 + h.val; omega) (by show 4 ≤ 56 + h.val; omega) O
    (by rw [(lvq_B h).2.1]; exact hO) (by rw [(lvq_B h).2.2.2]; exact hO) (amt_bwR h) (amt_brR h) _ _ (pay_bwR w r c h) (pay_brR w r c h) Q

/-! ## Loads -/

/-- A load of slot `s` of the gathered weights, a share of it held. -/
theorem load_slot (c s : Dev nD) (q : PosShare TreeShare) {off : Fin 4 → Nat} {hin : ∀ a, off a + S1x2x256x512.size a ≤ S16x2x256x512.size a}
    (hoff : off = ![s.val, 0, 0, 0]) {hl : ewM.view.LoadsAt (Rect.unit (s := S16x2x256x512) off S1x2x256x512.size hin).toLoadRect}
    (Q : Vec F S1x2x256x512 .f32 → sProp 𝕄) :
    slot w r q c s ⊢ iprop((∀ v, ⌜slotW v = w s⌝ -∗ slot w r q c s -∗ Q v)
      -∗ wpc c (Prog.lift (.load ewM (Rect.unit (s := S16x2x256x512) off S1x2x256x512.size hin).toLoadRect hl)) Q) := by
  subst hoff
  unfold slot ewGot ewPts Prog.lift
  iintro ⟨He, Hr⟩ Hk
  iapply (wp_load 𝒱₀ (c : Thread nD τ) none Set.univ (m := ewM) (S := ewSet s) (slot_load_subset s)) $$ He; iintro He
  rw [wp_ret]; imodintro
  iapply Hk $$ %_ %(slotW_gw w s) [He Hr]
  isplitl [He] <;> iassumption

theorem loadF_spec (c : Dev nD) (h : Fin 7) (q : PosShare TreeShare) (Q : Vec F S1x2x256x512 .f32 → sProp 𝕄) :
    slot w r q c (bk c (h.val + 1)) ⊢ iprop((∀ v, ⌜slotW v = w (bk c (h.val + 1))⌝ -∗ slot w r q c (bk c (h.val + 1)) -∗ Q v) -∗ wpc c (loadF c h) Q) :=
  load_slot w r c (bk c (h.val + 1)) q ((k0_off11_eq c h).trans (by
    have := h.isLt
    rw [show (bk c (h.val + 1)).val = (c.val + 31 - h.val) % 16 from by show (c.val + 32 - (h.val + 1)) % 16 = _; congr 1; omega])) Q
theorem loadB_spec (c : Dev nD) (h : Fin 8) (q : PosShare TreeShare) (Q : Vec F S1x2x256x512 .f32 → sProp 𝕄) :
    slot w r q c (fd c (h.val + 1)) ⊢ iprop((∀ v, ⌜slotW v = w (fd c (h.val + 1))⌝ -∗ slot w r q c (fd c (h.val + 1)) -∗ Q v) -∗ wpc c (loadB c h) Q) :=
  load_slot w r c (fd c (h.val + 1)) q ((k0_off12_eq c h).trans rfl) Q

end Cert.KernelIdeal.Moe

end
-- ==== Proof.HopSpecs.lean ====
/-
# A hop

What a hop takes and leaves. It takes the two slots it passes on and the two places at its neighbours it copies to; it
leaves the same two slots, the two slots its neighbours filled, its semaphores at zero, and its part of the sum added.
-/
module

public import proofs.«01_k».proof.Proof.Steps

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (w : Dev nD → Vec F S2x256x512 .f32) (r : Dev nD → Vec F S512x1 .i32)

/-- What device `c` starts with for hop `h` to the right: the duties it pays, its positions, the credit for what it gets. -/
def linF (c : Dev nD) (h : Fin 7) : sProp 𝕄 :=
  iprop(tokF c h ∗ (atPos ER (dcell c (fwS h)) 0 ∅ 0 ∗ atPos ER (dcell c (frS h)) 0 ∅ 0)
    ∗ (atPos ER (dcell c (fwR h)) 0 ∅ 0 ∗ atPos ER (dcell c (frR h)) 0 ∅ 0)
    ∗ (cred (tallyAt (dcell c (fwR h)) () NE) ∗ cred (tallyAt (dcell c (frR h)) () NR)))
def linB (c : Dev nD) (h : Fin 8) : sProp 𝕄 :=
  iprop(tokB c h ∗ (atPos ER (dcell c (bwS h)) 0 ∅ 0 ∗ atPos ER (dcell c (brS h)) 0 ∅ 0)
    ∗ (atPos ER (dcell c (bwR h)) 0 ∅ 0 ∗ atPos ER (dcell c (brR h)) 0 ∅ 0)
    ∗ (cred (tallyAt (dcell c (bwR h)) () NE) ∗ cred (tallyAt (dcell c (brR h)) () NR)))
/-- What the hop leaves of it: the semaphores at zero. -/
def doneF (c : Dev nD) (h : Fin 7) : sProp 𝕄 :=
  iprop((semVal (dcell c (fwS h)) 0 ∗ semVal (dcell c (frS h)) 0) ∗ (semVal (dcell c (fwR h)) 0 ∗ semVal (dcell c (frR h)) 0))
def doneB (c : Dev nD) (h : Fin 8) : sProp 𝕄 :=
  iprop((semVal (dcell c (bwS h)) 0 ∗ semVal (dcell c (brS h)) 0) ∗ (semVal (dcell c (bwR h)) 0 ∗ semVal (dcell c (brR h)) 0))

/-- A device's own weights, loaded from where its block was fetched to. -/
theorem load_w (v : Vec F S2x256x512 .f32) :
    k0_pay4 ((wM : Memref sig .tc .vmem S2x256x512 .f32).view.readAt (Elt F)
      (Rect.unit (s := S2x256x512) ![0, 0, 0] S2x256x512.size inb_S2x256x512_S2x256x512_0_0_0).toLoadRect v) = v :=
  (shapeCast_self _ _).trans (Memref.readAt_unit_zero (Elt F) cc0_stg2_0 (funext fun a => by fin_cases a <;> rfl) _ _)

/-- The load of a slot `n` places to the left, with `n` under another name. -/
theorem loadF_at (c : Dev nD) (k : Fin 7) (n : ℕ) (hn : k.val + 1 = n) (q : PosShare TreeShare) (Q : _ → sProp 𝕄) :
    slot w r q c (bk c n) ⊢ iprop((∀ v, ⌜slotW v = w (bk c n)⌝ -∗ slot w r q c (bk c n) -∗ Q v) -∗ wpc c (loadF c k) Q) := by
  subst hn; exact loadF_spec w r c k q Q
theorem loadB_at (c : Dev nD) (k : Fin 8) (n : ℕ) (hn : k.val + 1 = n) (q : PosShare TreeShare) (Q : _ → sProp 𝕄) :
    slot w r q c (fd c n) ⊢ iprop((∀ v, ⌜slotW v = w (fd c n)⌝ -∗ slot w r q c (fd c n) -∗ Q v) -∗ wpc c (loadB c k) Q) := by
  subst hn; exact loadB_spec w r c k q Q

/-- The first hop passes on the device's own slot both ways. -/
theorem hop0_spec (c : Dev nD) (ridx : IVec S512x1 32) (xv : FVec F S512x256 .f32) (Q : FVec F S512x512 .f32 → sProp 𝕄) :
    iprop(records w r ∗ levAts L lv ∗ (linF c 0 ∗ room (fd c 1) (bk c 0)) ∗ (linB c 0 ∗ room (bk c 1) (fd c 0))
        ∗ slot w r fullShare c c ∗ wPts c (w c) ∗ ow c (debt c 0))
      ⊢ iprop(((doneF c 0 ∗ doneB c 0 ∗ slot w r fullShare c c ∗ slot w r fullShare c (bk c 1) ∗ slot w r fullShare c (fd c 1)
            ∗ wPts c (w c) ∗ ow c (debt c 1)) -∗ Q (contrib ridx xv k0_pay3 (me c) (w c)))
          -∗ wpc c (hop0 c ridx xv) Q) := by
  unfold hop0 linF linB wpc
  rw [show debt c 0 = debt c 1 + owedB c 0 + owedF c 0 from debt_hop c 0]
  simp only [wp_bind]
  iintro ⟨#HR, #Hlev, ⟨⟨HtF, HaFS, HaFR, HcF⟩, HroomF⟩, ⟨⟨HtB, HaBS, HaBR, HcB⟩, HroomB⟩, Hs, Hw, HO⟩ Hk
  ihave Hs := (slot_halves w r c c).1 $$ Hs
  icases Hs with ⟨HsL, HsR⟩
  iapply (sendF_spec w r c 0 (debt c 1 + owedB c 0)) $$ [HtF HroomF HsL HO]
  · isplitr; · iexact HR
    isplitl [HtF]; · iexact HtF
    isplitl [HroomF]; · iexact HroomF
    isplitl [HsL]; · rw [show bk c (0 : Fin 7).val = c from bk_zero c]; iexact HsL
    iexact HO
  iintro ⟨Hc1, Hc2, HO⟩
  iapply (sendB_spec w r c 0 (debt c 1)) $$ [HtB HroomB HsR HO]
  · isplitr; · iexact HR
    isplitl [HtB]; · iexact HtB
    isplitl [HroomB]; · iexact HroomB
    isplitl [HsR]; · rw [show fd c (0 : Fin 8).val = c from fd_zero c]; iexact HsR
    iexact HO
  iintro ⟨Hc3, Hc4, HO⟩
  unfold Prog.lift wPts
  iapply (wp_load 𝒱₀ (c : Thread nD τ) none Set.univ (m := wM) (Finset.subset_univ _)) $$ Hw; iintro Hw
  rw [wp_ret]; imodintro
  iapply (waitSentF_spec w r c 0 (debt c 1) (above_debt c 1)) $$ [Hc1 Hc2 HaFS HO]
  · isplitr; · iexact HR
    isplitr; · iexact Hlev
    isplitl [Hc1 Hc2]
    · isplitl [Hc1] <;> iassumption
    isplitl [HaFS]; · iexact HaFS
    iexact HO
  iintro ⟨HsL, Hz1, HO⟩
  iapply (waitSentB_spec w r c 0 (debt c 1) (above_debt c 1)) $$ [Hc3 Hc4 HaBS HO]
  · isplitr; · iexact HR
    isplitr; · iexact Hlev
    isplitl [Hc3 Hc4]
    · isplitl [Hc3] <;> iassumption
    isplitl [HaBS]; · iexact HaBS
    iexact HO
  iintro ⟨HsR, Hz2, HO⟩
  iapply (waitGotF_spec w r c 0 (debt c 1) (above_debt c 1)) $$ [HcF HaFR HO]
  · isplitr; · iexact HR
    isplitr; · iexact Hlev
    isplitl [HcF]; · iexact HcF
    isplitl [HaFR]; · iexact HaFR
    iexact HO
  iintro ⟨HgF, Hz3, HO⟩
  iapply (waitGotB_spec w r c 0 (debt c 1) (above_debt c 1)) $$ [HcB HaBR HO]
  · isplitr; · iexact HR
    isplitr; · iexact Hlev
    isplitl [HcB]; · iexact HcB
    isplitl [HaBR]; · iexact HaBR
    iexact HO
  iintro ⟨HgB, Hz4, HO⟩
  rw [Prog.pure_eq_ret, wp_ret]; imodintro
  rw [load_w]
  iapply Hk
  unfold doneF doneB
  isplitl [Hz1 Hz3]
  · isplitl [Hz1] <;> iassumption
  isplitl [Hz2 Hz4]
  · isplitl [Hz2] <;> iassumption
  isplitl [HsL HsR]
  · iapply (slot_halves w r c c).2
    isplitl [HsL]
    · rw [show bk c (0 : Fin 7).val = c from bk_zero c]; iexact HsL
    · rw [show fd c (0 : Fin 8).val = c from fd_zero c]; iexact HsR
  isplitl [HgF]; · iexact HgF
  isplitl [HgB]; · iexact HgB
  isplitl [Hw]; · iexact Hw
  iexact HO

/-- Hop `k + 1`, for `k < 6`, passes on the slots `k + 1` places away and adds what they contribute. -/
theorem hopMid_spec (c : Dev nD) (ridx : IVec S512x1 32) (xv : FVec F S512x256 .f32) (k : Fin 6) (acc : FVec F S512x512 .f32) (Q : FVec F S512x512 .f32 → sProp 𝕄) :
    iprop(records w r ∗ levAts L lv ∗ (linF c (hF k) ∗ room (fd c 1) (bk c (hF k).val)) ∗ (linB c (hB k.castSucc) ∗ room (bk c 1) (fd c (hB k.castSucc).val))
        ∗ slot w r fullShare c (bk c (k.val + 1)) ∗ slot w r fullShare c (fd c (k.val + 1)) ∗ ow c (debt c (k.val + 1)))
      ⊢ iprop(((doneF c (hF k) ∗ doneB c (hB k.castSucc) ∗ slot w r fullShare c (bk c (k.val + 1)) ∗ slot w r fullShare c (fd c (k.val + 1))
            ∗ slot w r fullShare c (bk c (k.val + 2)) ∗ slot w r fullShare c (fd c (k.val + 2)) ∗ ow c (debt c (k.val + 2)))
            -∗ Q (contrib ridx xv (contrib ridx xv acc (fromL c (BitVec.ofNat 32 (1 + k.val))) (w (bk c (k.val + 1)))) (fromR c (BitVec.ofNat 32 (1 + k.val))) (w (fd c (k.val + 1)))))
          -∗ wpc c (hopMid c ridx xv k acc) Q) := by
  unfold hopMid linF linB wpc
  rw [show debt c (k.val + 1) = debt c (k.val + 2) + owedB c (hB k.castSucc) + owedF c (hF k) from debt_hop c (hF k)]
  simp only [wp_bind]
  iintro ⟨#HR, #Hlev, ⟨⟨HtF, HaFS, HaFR, HcF⟩, HroomF⟩, ⟨⟨HtB, HaBS, HaBR, HcB⟩, HroomB⟩, HsF, HsB, HO⟩ Hk
  ihave HsF := (slot_halves w r c (bk c (k.val + 1))).1 $$ HsF
  icases HsF with ⟨HsFL, HsFR⟩
  ihave HsB := (slot_halves w r c (fd c (k.val + 1))).1 $$ HsB
  icases HsB with ⟨HsBL, HsBR⟩
  iapply (sendF_spec w r c (hF k) (debt c (k.val + 2) + owedB c (hB k.castSucc))) $$ [HtF HroomF HsFL HO]
  · isplitr; · iexact HR
    isplitl [HtF]; · iexact HtF
    isplitl [HroomF]; · iexact HroomF
    isplitl [HsFL]; · iexact HsFL
    iexact HO
  iintro ⟨Hc1, Hc2, HO⟩
  iapply (sendB_spec w r c (hB k.castSucc) (debt c (k.val + 2))) $$ [HtB HroomB HsBR HO]
  · isplitr; · iexact HR
    isplitl [HtB]; · iexact HtB
    isplitl [HroomB]; · iexact HroomB
    isplitl [HsBR]; · iexact HsBR
    iexact HO
  iintro ⟨Hc3, Hc4, HO⟩
  iapply (loadF_at w r c k.castSucc (k.val + 1) rfl fullShare.right) $$ HsFR
  iintro %v₁ %hv₁ HsFR
  iapply (loadB_at w r c k.castSucc.castSucc (k.val + 1) rfl fullShare.left) $$ HsBL
  iintro %v₂ %hv₂ HsBL
  iapply (waitSentF_spec w r c (hF k) (debt c (k.val + 2)) (above_debt c (k.val + 2))) $$ [Hc1 Hc2 HaFS HO]
  · isplitr; · iexact HR
    isplitr; · iexact Hlev
    isplitl [Hc1 Hc2]
    · isplitl [Hc1] <;> iassumption
    isplitl [HaFS]; · iexact HaFS
    iexact HO
  iintro ⟨HsFL, Hz1, HO⟩
  iapply (waitSentB_spec w r c (hB k.castSucc) (debt c (k.val + 2)) (above_debt c (k.val + 2))) $$ [Hc3 Hc4 HaBS HO]
  · isplitr; · iexact HR
    isplitr; · iexact Hlev
    isplitl [Hc3 Hc4]
    · isplitl [Hc3] <;> iassumption
    isplitl [HaBS]; · iexact HaBS
    iexact HO
  iintro ⟨HsBR, Hz2, HO⟩
  iapply (waitGotF_spec w r c (hF k) (debt c (k.val + 2)) (above_debt c (k.val + 2))) $$ [HcF HaFR HO]
  · isplitr; · iexact HR
    isplitr; · iexact Hlev
    isplitl [HcF]; · iexact HcF
    isplitl [HaFR]; · iexact HaFR
    iexact HO
  iintro ⟨HgF, Hz3, HO⟩
  iapply (waitGotB_spec w r c (hB k.castSucc) (debt c (k.val + 2)) (above_debt c (k.val + 2))) $$ [HcB HaBR HO]
  · isplitr; · iexact HR
    isplitr; · iexact Hlev
    isplitl [HcB]; · iexact HcB
    isplitl [HaBR]; · iexact HaBR
    iexact HO
  iintro ⟨HgB, Hz4, HO⟩
  rw [Prog.pure_eq_ret, wp_ret]; imodintro
  rw [show slotW v₁ = w (bk c (k.val + 1)) from hv₁, show slotW v₂ = w (fd c (k.val + 1)) from hv₂]
  iapply Hk
  unfold doneF doneB
  isplitl [Hz1 Hz3]
  · isplitl [Hz1] <;> iassumption
  isplitl [Hz2 Hz4]
  · isplitl [Hz2] <;> iassumption
  isplitl [HsFL HsFR]
  · iapply (slot_halves w r c (bk c (k.val + 1))).2
    isplitl [HsFL]; · iexact HsFL
    iexact HsFR
  isplitl [HsBL HsBR]
  · iapply (slot_halves w r c (fd c (k.val + 1))).2
    isplitl [HsBL]; · iexact HsBL
    iexact HsBR
  isplitl [HgF]; · iexact HgF
  isplitl [HgB]; · iexact HgB
  iexact HO

/-- The last hop passes on to the left alone. -/
theorem hop7_spec (c : Dev nD) (ridx : IVec S512x1 32) (xv : FVec F S512x256 .f32) (acc : FVec F S512x512 .f32) (Q : FVec F S512x512 .f32 → sProp 𝕄) :
    iprop(records w r ∗ levAts L lv ∗ (linB c 7 ∗ room (bk c 1) (fd c 7))
        ∗ slot w r fullShare c (bk c 7) ∗ slot w r fullShare c (fd c 7) ∗ ow c (debt c 7))
      ⊢ iprop(((doneB c 7 ∗ slot w r fullShare c (bk c 7) ∗ slot w r fullShare c (fd c 7) ∗ slot w r fullShare c (fd c 8) ∗ ow c 0)
            -∗ Q (contrib ridx xv (contrib ridx xv acc (fromL c 7#32) (w (bk c 7))) (fromR c 7#32) (w (fd c 7))))
          -∗ wpc c (hop7 c ridx xv acc) Q) := by
  unfold hop7 linB wpc
  rw [debt_seven c]
  simp only [wp_bind]
  iintro ⟨#HR, #Hlev, ⟨⟨HtB, HaBS, HaBR, HcB⟩, HroomB⟩, HsF, HsB, HO⟩ Hk
  ihave HsB := (slot_halves w r c (fd c 7)).1 $$ HsB
  icases HsB with ⟨HsBL, HsBR⟩
  iapply (sendB_spec w r c 7 0) $$ [HtB HroomB HsBR HO]
  · isplitr; · iexact HR
    isplitl [HtB]; · iexact HtB
    isplitl [HroomB]; · iexact HroomB
    isplitl [HsBR]; · iexact HsBR
    iexact HO
  iintro ⟨Hc3, Hc4, HO⟩
  iapply (loadF_at w r c 6 7 rfl fullShare) $$ HsF
  iintro %v₁ %hv₁ HsF
  iapply (loadB_at w r c 6 7 rfl fullShare.left) $$ HsBL
  iintro %v₂ %hv₂ HsBL
  iapply (waitSentB_spec w r c 7 0 (Above.zero _)) $$ [Hc3 Hc4 HaBS HO]
  · isplitr; · iexact HR
    isplitr; · iexact Hlev
    isplitl [Hc3 Hc4]
    · isplitl [Hc3] <;> iassumption
    isplitl [HaBS]; · iexact HaBS
    iexact HO
  iintro ⟨HsBR, Hz2, HO⟩
  iapply (waitGotB_spec w r c 7 0 (Above.zero _)) $$ [HcB HaBR HO]
  · isplitr; · iexact HR
    isplitr; · iexact Hlev
    isplitl [HcB]; · iexact HcB
    isplitl [HaBR]; · iexact HaBR
    iexact HO
  iintro ⟨HgB, Hz4, HO⟩
  rw [Prog.pure_eq_ret, wp_ret]; imodintro
  rw [show slotW v₁ = w (bk c 7) from hv₁, show slotW v₂ = w (fd c 7) from hv₂]
  iapply Hk
  unfold doneB
  isplitl [Hz2 Hz4]
  · isplitl [Hz2] <;> iassumption
  isplitl [HsF]; · iexact HsF
  isplitl [HsBL HsBR]
  · iapply (slot_halves w r c (fd c 7)).2
    isplitl [HsBL]; · iexact HsBL
    iexact HsBR
  isplitl [HgB]; · iexact HgB
  iexact HO

end Cert.KernelIdeal.Moe

end
-- ==== Proof.Progress.lean ====
/-
# The eight hops in a row

What device `c` holds after its first `n` hops, and that each hop takes it from one such state to the next, adding its part
of the sum.
-/
module

public import proofs.«01_k».proof.Proof.HopSpecs

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A row of facts of which the first `n` have changed -/

/-- The first `n` facts in their state `A`, the others in their state `B`. -/
def upTo {N : ℕ} (A B : Fin N → sProp 𝕄) (n : ℕ) : sProp 𝕄 := bigSep Finset.univ fun h : Fin N => if h.val < n then A h else B h

omit [FloatOps F] in
/-- The next one changes. -/
theorem upTo_step {N : ℕ} (A B : Fin N → sProp 𝕄) (k : Fin N) (n : ℕ) (hn : k.val = n) :
    upTo A B n ⊢ iprop(B k ∗ (A k -∗ upTo A B (n + 1))) := by
  subst hn
  unfold upTo
  rw [bigSep_univ_at _ k, if_neg (lt_irrefl _)]
  refine sep_mono_right ?_
  rw [bigSep_univ_at (fun h : Fin N => if h.val < k.val + 1 then A h else B h) k, if_pos (Nat.lt_succ_self _)]
  rw [show (bigSep (Finset.univ.erase k) fun h : Fin N => if h.val < k.val then A h else B h)
      = bigSep (Finset.univ.erase k) fun h : Fin N => if h.val < k.val + 1 then A h else B h from bigSep_congr fun h hh => by
    have hne : h.val ≠ k.val := fun e => (Finset.mem_erase.mp hh).1 (Fin.ext e)
    by_cases h1 : h.val < k.val
    · rw [if_pos h1, if_pos (by omega)]
    · rw [if_neg h1, if_neg (by omega)]]
  iintro H HA
  isplitl [HA] <;> iassumption

omit [FloatOps F] in
/-- One that has changed is looked at. -/
theorem upTo_look {N : ℕ} (A B : Fin N → sProp 𝕄) (k : Fin N) (n : ℕ) (h : k.val < n) :
    upTo A B n ⊢ iprop(A k ∗ (A k -∗ upTo A B n)) := by
  unfold upTo
  rw [bigSep_univ_at _ k, if_pos h]
  refine sep_mono_right ?_
  iintro H HA
  isplitl [HA] <;> iassumption

omit [FloatOps F] in
theorem upTo_zero {N : ℕ} (A B : Fin N → sProp 𝕄) : upTo A B 0 = bigSep Finset.univ B :=
  bigSep_congr fun h _ => if_neg (Nat.not_lt_zero _)
omit [FloatOps F] in
theorem upTo_all {N : ℕ} (A B : Fin N → sProp 𝕄) (n : ℕ) (hn : N ≤ n) : upTo A B n = bigSep Finset.univ A :=
  bigSep_congr fun h _ => if_pos (lt_of_lt_of_le h.isLt hn)
omit [FloatOps F] in
/-- Past the end nothing changes. -/
theorem upTo_past {N : ℕ} (A B : Fin N → sProp 𝕄) (n n' : ℕ) (hn : N ≤ n) (hn' : N ≤ n') : upTo A B n = upTo A B n' := by
  rw [upTo_all A B n hn, upTo_all A B n' hn']

/-! ## The states -/

variable (w : Dev nD → Vec F S2x256x512 .f32) (r : Dev nD → Vec F S512x1 .i32)

/-- The hops to the right, to the left, of which `n` are done. -/
def hopsF (c : Dev nD) (n : ℕ) : sProp 𝕄 := upTo (doneF c) (fun h : Fin 7 => iprop(linF c h ∗ room (fd c 1) (bk c h.val))) n
def hopsB (c : Dev nD) (n : ℕ) : sProp 𝕄 := upTo (doneB c) (fun h : Fin 8 => iprop(linB c h ∗ room (bk c 1) (fd c h.val))) n
/-- The slots that came from the left, from the right. -/
def gotF (c : Dev nD) (n : ℕ) : sProp 𝕄 := upTo (fun h : Fin 7 => slot w r fullShare c (bk c (h.val + 1))) (fun _ => iprop(emp)) n
def gotB (c : Dev nD) (n : ℕ) : sProp 𝕄 := upTo (fun h : Fin 8 => slot w r fullShare c (fd c (h.val + 1))) (fun _ => iprop(emp)) n

/-- What device `c` holds after `n` hops. -/
def after (c : Dev nD) (n : ℕ) : sProp 𝕄 :=
  iprop(hopsF c n ∗ hopsB c n ∗ gotF w r c n ∗ gotB w r c n ∗ ow c (debt c n))

omit [FloatOps F] in
theorem gotF_put (c : Dev nD) (k : Fin 7) : iprop(gotF w r c k.val ∗ slot w r fullShare c (bk c (k.val + 1))) ⊢ gotF w r c (k.val + 1) := by
  unfold gotF
  iintro ⟨H, Hs⟩
  ihave H := (upTo_step _ _ k k.val rfl) $$ H
  icases H with ⟨-, H⟩
  iapply H; iexact Hs
omit [FloatOps F] in
theorem gotB_put (c : Dev nD) (k : Fin 8) : iprop(gotB w r c k.val ∗ slot w r fullShare c (fd c (k.val + 1))) ⊢ gotB w r c (k.val + 1) := by
  unfold gotB
  iintro ⟨H, Hs⟩
  ihave H := (upTo_step _ _ k k.val rfl) $$ H
  icases H with ⟨-, H⟩
  iapply H; iexact Hs

omit [FloatOps F] in
theorem gotF_look (c : Dev nD) (k : Fin 7) (n : ℕ) (hn : k.val + 1 = n) :
    gotF w r c n ⊢ iprop(slot w r fullShare c (bk c n) ∗ (slot w r fullShare c (bk c n) -∗ gotF w r c n)) := by
  subst hn; exact upTo_look _ _ k _ (Nat.lt_succ_self _)
omit [FloatOps F] in
theorem gotB_look (c : Dev nD) (k : Fin 8) (n : ℕ) (hn : k.val + 1 = n) :
    gotB w r c n ⊢ iprop(slot w r fullShare c (fd c n) ∗ (slot w r fullShare c (fd c n) -∗ gotB w r c n)) := by
  subst hn; exact upTo_look _ _ k _ (Nat.lt_succ_self _)

/-- The sum after hop `n`: the device's own experts, then those of the devices `1, …, n` places away, left before right. -/
def accAt (c : Dev nD) (ridx : IVec S512x1 32) (xv : FVec F S512x256 .f32) : ℕ → FVec F S512x512 .f32
  | 0 => contrib ridx xv k0_pay3 (me c) (w c)
  | n + 1 => contrib ridx xv (contrib ridx xv (accAt c ridx xv n) (fromL c (BitVec.ofNat 32 (1 + n))) (w (bk c (n + 1))))
      (fromR c (BitVec.ofNat 32 (1 + n))) (w (fd c (n + 1)))
/-- The whole sum: last comes the device opposite. -/
def accAll (c : Dev nD) (ridx : IVec S512x1 32) (xv : FVec F S512x256 .f32) : FVec F S512x512 .f32 :=
  contrib ridx xv (accAt w c ridx xv 7) (fromR c 8#32) (w (fd c 8))

theorem after_hop0 (c : Dev nD) (ridx : IVec S512x1 32) (xv : FVec F S512x256 .f32) (Q : FVec F S512x512 .f32 → sProp 𝕄) :
    iprop(records w r ∗ levAts L lv ∗ slot w r fullShare c c ∗ wPts c (w c) ∗ after w r c 0)
      ⊢ iprop(((slot w r fullShare c c ∗ wPts c (w c) ∗ after w r c 1) -∗ Q (accAt w c ridx xv 0)) -∗ wpc c (hop0 c ridx xv) Q) := by
  unfold after hopsF hopsB
  rw [show accAt w c ridx xv 0 = contrib ridx xv k0_pay3 (me c) (w c) from rfl]
  iintro ⟨#HR, #Hlev, Hs, Hw, HF, HB, HgF, HgB, HO⟩ Hk
  ihave HF := (upTo_step _ _ (0 : Fin 7) 0 rfl) $$ HF
  icases HF with ⟨HF, HF'⟩
  ihave HB := (upTo_step _ _ (0 : Fin 8) 0 rfl) $$ HB
  icases HB with ⟨HB, HB'⟩
  iapply (hop0_spec w r c ridx xv Q) $$ [Hs Hw HF HB HO]
  · isplitr; · iexact HR
    isplitr; · iexact Hlev
    isplitl [HF]; · iexact HF
    isplitl [HB]; · iexact HB
    isplitl [Hs]; · iexact Hs
    isplitl [Hw]; · iexact Hw
    iexact HO
  iintro ⟨HdF, HdB, Hs, H1, H2, Hw, HO⟩
  iapply Hk
  isplitl [Hs]; · iexact Hs
  isplitl [Hw]; · iexact Hw
  isplitl [HF' HdF]; · iapply HF'; iexact HdF
  isplitl [HB' HdB]; · iapply HB'; iexact HdB
  isplitl [HgF H1]
  · iapply (gotF_put w r c 0)
    isplitl [HgF]; · iexact HgF
    iexact H1
  isplitl [HgB H2]
  · iapply (gotB_put w r c 0)
    isplitl [HgB]; · iexact HgB
    iexact H2
  iexact HO

theorem after_hopMid (c : Dev nD) (ridx : IVec S512x1 32) (xv : FVec F S512x256 .f32) (k : Fin 6) (Q : FVec F S512x512 .f32 → sProp 𝕄) :
    iprop(records w r ∗ levAts L lv ∗ after w r c (k.val + 1))
      ⊢ iprop((after w r c (k.val + 2) -∗ Q (accAt w c ridx xv (k.val + 1))) -∗ wpc c (hopMid c ridx xv k (accAt w c ridx xv k.val)) Q) := by
  unfold after hopsF hopsB
  rw [show accAt w c ridx xv (k.val + 1) = contrib ridx xv (contrib ridx xv (accAt w c ridx xv k.val) (fromL c (BitVec.ofNat 32 (1 + k.val))) (w (bk c (k.val + 1))))
      (fromR c (BitVec.ofNat 32 (1 + k.val))) (w (fd c (k.val + 1))) from rfl]
  iintro ⟨#HR, #Hlev, HF, HB, HgF, HgB, HO⟩ Hk
  ihave HF := (upTo_step _ _ (hF k) (k.val + 1) rfl) $$ HF
  icases HF with ⟨HF, HF'⟩
  ihave HB := (upTo_step _ _ (hB k.castSucc) (k.val + 1) rfl) $$ HB
  icases HB with ⟨HB, HB'⟩
  ihave HgF := (gotF_look w r c k.castSucc (k.val + 1) rfl) $$ HgF
  icases HgF with ⟨HsF, HgF⟩
  ihave HgB := (gotB_look w r c k.castSucc.castSucc (k.val + 1) rfl) $$ HgB
  icases HgB with ⟨HsB, HgB⟩
  iapply (hopMid_spec w r c ridx xv k (accAt w c ridx xv k.val) Q) $$ [HsF HsB HF HB HO]
  · isplitr; · iexact HR
    isplitr; · iexact Hlev
    isplitl [HF]; · iexact HF
    isplitl [HB]; · iexact HB
    isplitl [HsF]; · iexact HsF
    isplitl [HsB]; · iexact HsB
    iexact HO
  iintro ⟨HdF, HdB, HsF, HsB, H1, H2, HO⟩
  iapply Hk
  isplitl [HF' HdF]; · iapply HF'; iexact HdF
  isplitl [HB' HdB]; · iapply HB'; iexact HdB
  isplitl [HgF HsF H1]
  · iapply (gotF_put w r c (hF k))
    isplitl [HgF HsF]
    · iapply HgF; iexact HsF
    · iexact H1
  isplitl [HgB HsB H2]
  · iapply (gotB_put w r c (hB k.castSucc))
    isplitl [HgB HsB]
    · iapply HgB; iexact HsB
    · iexact H2
  iexact HO

theorem after_hop7 (c : Dev nD) (ridx : IVec S512x1 32) (xv : FVec F S512x256 .f32) (Q : FVec F S512x512 .f32 → sProp 𝕄) :
    iprop(records w r ∗ levAts L lv ∗ after w r c 7)
      ⊢ iprop((after w r c 8 -∗ Q (accAt w c ridx xv 7)) -∗ wpc c (hop7 c ridx xv (accAt w c ridx xv 6)) Q) := by
  unfold after hopsF hopsB
  rw [show accAt w c ridx xv 7 = contrib ridx xv (contrib ridx xv (accAt w c ridx xv 6) (fromL c 7#32) (w (bk c 7))) (fromR c 7#32) (w (fd c 7)) from rfl]
  rw [upTo_past (doneF c) _ 7 8 (le_refl _) (by decide), show gotF w r c 8 = gotF w r c 7 from upTo_past _ _ 8 7 (by decide) (le_refl _)]
  iintro ⟨#HR, #Hlev, HF, HB, HgF, HgB, HO⟩ Hk
  ihave HB := (upTo_step _ _ (7 : Fin 8) 7 rfl) $$ HB
  icases HB with ⟨HB, HB'⟩
  ihave HgF := (gotF_look w r c 6 7 rfl) $$ HgF
  icases HgF with ⟨HsF, HgF⟩
  ihave HgB := (gotB_look w r c 6 7 rfl) $$ HgB
  icases HgB with ⟨HsB, HgB⟩
  iapply (hop7_spec w r c ridx xv (accAt w c ridx xv 6) Q) $$ [HsF HsB HB HO]
  · isplitr; · iexact HR
    isplitr; · iexact Hlev
    isplitl [HB]; · iexact HB
    isplitl [HsF]; · iexact HsF
    isplitl [HsB]; · iexact HsB
    iexact HO
  iintro ⟨HdB, HsF, HsB, H2, HO⟩
  iapply Hk
  isplitl [HF]; · iexact HF
  isplitl [HB' HdB]; · iapply HB'; iexact HdB
  isplitl [HgF HsF]; · iapply HgF; iexact HsF
  isplitl [HgB HsB H2]
  · iapply (gotB_put w r c 7)
    isplitl [HgB HsB]
    · iapply HgB; iexact HsB
    · iexact H2
  rw [debt_last]; iexact HO

end Cert.KernelIdeal.Moe

end
-- ==== Proof.Body.lean ====
/-
# The body of one device

The device copies its own blocks into its slots, tells both neighbours which of its slots are free, waits until both have told
it, makes the eight hops and stores its part of the result.
-/
module

public import proofs.«01_k».proof.Proof.Progress

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots seen from a device -/

/-- The slot a place on the ring names: the device's own, one to the left, one to the right. -/
def place (c : Dev nD) : Unit ⊕ (Fin 7 ⊕ Fin 8) → Dev nD
  | .inl _ => c
  | .inr (.inl h) => bk c (h.val + 1)
  | .inr (.inr h) => fd c (h.val + 1)

theorem place_injective (c : Dev nD) : Function.Injective (place c) := by
  have hc := lt16 c
  rintro (a | a | a) (b | b | b) h <;> have h' := congrArg Fin.val h <;> simp only [place, bk, fd] at h'
  · rfl
  · have := b.isLt; omega
  · have := b.isLt; omega
  · have := a.isLt; omega
  · have := a.isLt; have := b.isLt; exact congrArg (fun x => Sum.inr (Sum.inl x)) (Fin.ext (by omega))
  · have := a.isLt; have := b.isLt; omega
  · have := a.isLt; omega
  · have := a.isLt; have := b.isLt; omega
  · have := a.isLt; have := b.isLt; exact congrArg (fun x => Sum.inr (Sum.inr x)) (Fin.ext (by omega))

/-- Every slot is named once. -/
def placeEquiv (c : Dev nD) : Unit ⊕ (Fin 7 ⊕ Fin 8) ≃ Dev nD :=
  Equiv.ofBijective (place c) ((Fintype.bijective_iff_injective_and_card _).mpr ⟨place_injective c, by decide⟩)

omit [FloatOps F] in
theorem bigSep_places (c : Dev nD) (Φ : Dev nD → sProp 𝕄) :
    bigSep Finset.univ Φ = iprop(Φ c ∗ bigSep Finset.univ (fun h : Fin 7 => Φ (bk c (h.val + 1))) ∗ bigSep Finset.univ (fun h : Fin 8 => Φ (fd c (h.val + 1)))) := by
  rw [bigSep_univ_equiv (placeEquiv c) Φ, bigSep_univ_sum, bigSep_univ_sum]
  rw [show (bigSep Finset.univ fun a : Unit => Φ (placeEquiv c (Sum.inl a))) = Φ c from bigSep_singleton]
  rfl

/-! ## Its own blocks -/

variable (w : Dev nD → Vec F S2x256x512 .f32) (r : Dev nD → Vec F S512x1 .i32)

omit [FloatOps F] in
theorem landed_ew (c : Dev nD) (f : Vec F S16x2x256x512 .f32) :
    iprop(((c : Thread nD τ).loc cc0_scratch0 ↦[(ewS c).view.set]{fullShare} ((ewS c).view.write (Elt F) f ((wM : Memref sig .tc .vmem S2x256x512 .f32).view.read (Elt F) (w c)) Finset.univ))
      ∗ ((c : Thread nD τ).loc cc0_stg2_0 ↦[(wM : Memref sig .tc .vmem S2x256x512 .f32).view.set]{fullShare} w c)) ⊢ pay w r c (own0 : DmaSem sig).val := by
  rw [pay_own0]
  unfold ewGot ewPts wPts
  rw [show (wM : Memref sig .tc .vmem S2x256x512 .f32).view.set = Finset.univ from View.set_whole cc0_stg2_0,
    show (wM : Memref sig .tc .vmem S2x256x512 .f32).view.read (Elt F) (w c) = w c from View.read_whole (Val := Elt F) cc0_stg2_0 _, pointsTo_congr (write_gw w c f)]
/-- A copy of its own block into its slot. -/
theorem copy_ew (c : Dev nD) {off : Fin 4 → Nat} {hin : ∀ a, off a + S1x2x256x512.size a ≤ S16x2x256x512.size a} (hoff : off = ![c.val, 0, 0, 0])
    {hsrc : (wM : Memref sig .tc .vmem S2x256x512 .f32).view.WordExact} {hdst : (ewAt off hin).view.WordExact}
    {hsem : DmaTarget.Typed (nD := nD) .vmem (.dma own0) (.here (p := (c : Thread nD τ).2) (ewAt off hin))}
    {α : Type} {Q : α → sProp 𝕄} {k : PUnit → Prog (TpuEff nD τ sig (Elt F) Λ₀ .tc) α} :
    iprop(known w r (dcell c own0) ∗ wPts c (w c) ∗ (∃ f, ewPts fullShare c c f) ∗ dutyTok ER (dcell c own0) 0 false)
      ⊢ iprop((cred (tallyAt (dcell c own0) () NE) -∗ wpc c (k ⟨⟩) Q)
          -∗ wpc c (.op (.enqueueDma wM (.here (p := (c : Thread nD τ).2) (ewAt off hin)) (.dma own0) hsrc hdst hsem) k) Q) := by
  subst hoff
  unfold known ewPts wPts
  iintro ⟨⟨⟨%κ, #HI⟩, #HR⟩, Hw, ⟨%f, Hd⟩, Ht⟩ Hk
  iapply (Rounds.wp_copy_pointsTo 𝒱₀ ER (Rd w r) (c : Thread nD τ) none (κ := κ) (r := 0) (d := false)
      (src := wM) (dst := ewS c) (q := fullShare) (fs := w c) (fd := f)
      (duty_dma w r c own0) () NE rfl amt_own0 (landed_ew w r c f)) $$ [Hw Hd Ht]
  · isplitr; · iexact HI
    isplitl [Hw]; · rw [show (wM : Memref sig .tc .vmem S2x256x512 .f32).view.set = Finset.univ from View.set_whole cc0_stg2_0]; iexact Hw
    isplitl [Hd]; · iexact Hd
    isplitl [Ht]; · iexact Ht
    iexact HR
  iexact Hk

omit [FloatOps F] in
theorem landed_rg (c : Dev nD) (f : Vec F S16x512x1 .i32) :
    iprop(((c : Thread nD τ).loc cc0_scratch1 ↦[(rgS c).view.set]{fullShare} ((rgS c).view.write (Elt F) f ((riM : Memref sig .tc .vmem S512x1 .i32).view.read (Elt F) (r c)) Finset.univ))
      ∗ ((c : Thread nD τ).loc cc0_stg1_0 ↦[(riM : Memref sig .tc .vmem S512x1 .i32).view.set]{fullShare} r c)) ⊢ pay w r c (own1 : DmaSem sig).val := by
  rw [pay_own1]
  unfold rgGot rgPts riPts
  rw [show (riM : Memref sig .tc .vmem S512x1 .i32).view.set = Finset.univ from View.set_whole cc0_stg1_0,
    show (riM : Memref sig .tc .vmem S512x1 .i32).view.read (Elt F) (r c) = r c from View.read_whole (Val := Elt F) cc0_stg1_0 _, pointsTo_congr (write_gr r c f)]
/-- A copy of its own block into its slot. -/
theorem copy_rg (c : Dev nD) {off : Fin 3 → Nat} {hin : ∀ a, off a + S1x512x1.size a ≤ S16x512x1.size a} (hoff : off = ![c.val, 0, 0])
    {hsrc : (riM : Memref sig .tc .vmem S512x1 .i32).view.WordExact} {hdst : (rgAt off hin).view.WordExact}
    {hsem : DmaTarget.Typed (nD := nD) .vmem (.dma own1) (.here (p := (c : Thread nD τ).2) (rgAt off hin))}
    {α : Type} {Q : α → sProp 𝕄} {k : PUnit → Prog (TpuEff nD τ sig (Elt F) Λ₀ .tc) α} :
    iprop(known w r (dcell c own1) ∗ riPts c (r c) ∗ (∃ f, rgPts fullShare c c f) ∗ dutyTok ER (dcell c own1) 0 false)
      ⊢ iprop((cred (tallyAt (dcell c own1) () NR) -∗ wpc c (k ⟨⟩) Q)
          -∗ wpc c (.op (.enqueueDma riM (.here (p := (c : Thread nD τ).2) (rgAt off hin)) (.dma own1) hsrc hdst hsem) k) Q) := by
  subst hoff
  unfold known rgPts riPts
  iintro ⟨⟨⟨%κ, #HI⟩, #HR⟩, Hw, ⟨%f, Hd⟩, Ht⟩ Hk
  iapply (Rounds.wp_copy_pointsTo 𝒱₀ ER (Rd w r) (c : Thread nD τ) none (κ := κ) (r := 0) (d := false)
      (src := riM) (dst := rgS c) (q := fullShare) (fs := r c) (fd := f)
      (duty_dma w r c own1) () NR rfl amt_own1 (landed_rg w r c f)) $$ [Hw Hd Ht]
  · isplitr; · iexact HI
    isplitl [Hw]; · rw [show (riM : Memref sig .tc .vmem S512x1 .i32).view.set = Finset.univ from View.set_whole cc0_stg1_0]; iexact Hw
    isplitl [Hd]; · iexact Hd
    isplitl [Ht]; · iexact Ht
    iexact HR
  iexact Hk

/-- Both copies and their waits. -/
theorem own_spec (c : Dev nD) (O : CellTallies nD τ sig Unit) (hO : Above 1 O) (Q : PUnit → sProp 𝕄) :
    iprop(records w r ∗ levAts L lv ∗ room c c ∗ (wPts c (w c) ∗ riPts c (r c)) ∗ (dutyTok ER (dcell c own0) 0 false ∗ dutyTok ER (dcell c own1) 0 false)
        ∗ (atPos ER (dcell c own0) 0 ∅ 0 ∗ atPos ER (dcell c own1) 0 ∅ 0) ∗ ow c O)
      ⊢ iprop(((slot w r fullShare c c ∗ (wPts c (w c) ∗ riPts c (r c)) ∗ (semVal (dcell c own0) 0 ∗ semVal (dcell c own1) 0) ∗ ow c O) -∗ Q ⟨⟩)
          -∗ wpc c (ownCopies c) Q) := by
  unfold ownCopies room slot
  simp only [Prog.lift, Prog.bind_op, Prog.bind_ret]
  iintro ⟨#HR, #Hlev, ⟨Hd1, Hd2⟩, ⟨Hw, Hr⟩, ⟨Ht1, Ht2⟩, ⟨Ha1, Ha2⟩, HO⟩ Hk
  iapply (copy_ew w r c (k0_off1_eq c)) $$ [Hw Hd1 Ht1]
  · isplitr; · iapply (records_dma w r c own0 (by decide)); iexact HR
    isplitl [Hw]; · iexact Hw
    isplitl [Hd1]; · iexact Hd1
    iexact Ht1
  iintro Hc1
  iapply (copy_rg w r c (k0_off2_eq c)) $$ [Hr Hd2 Ht2]
  · isplitr; · iapply (records_dma w r c own1 (by decide)); iexact HR
    isplitl [Hr]; · iexact Hr
    isplitl [Hd2]; · iexact Hd2
    iexact Ht2
  iintro Hc2
  iapply (wp_wait_dma w r c own0 O hO (src := wM) (dst := ewAt (k0_off1 c) (k0_off1_inb c)) (Eq.symm amt_own0)) $$ [Hc1 Ha1 HO]
  · isplitr; · iapply (records_dma w r c own0 (by decide)); iexact HR
    isplitr; · iexact Hlev
    isplitl [Hc1]; · rw [amt_own0]; iexact Hc1
    isplitl [HO]; · iexact HO
    iexact Ha1
  iintro ⟨HO, Hp1, Hz1⟩
  iapply (wp_wait_dma w r c own1 O hO (src := riM) (dst := rgAt (k0_off2 c) (k0_off2_inb c)) (Eq.symm amt_own1)) $$ [Hc2 Ha2 HO]
  · isplitr; · iapply (records_dma w r c own1 (by decide)); iexact HR
    isplitr; · iexact Hlev
    isplitl [Hc2]; · rw [amt_own1]; iexact Hc2
    isplitl [HO]; · iexact HO
    iexact Ha2
  iintro ⟨HO, Hp2, Hz2⟩
  ihave Hp1 := (Entails.of_eq (pay_own0 w r c)) $$ Hp1
  ihave Hp2 := (Entails.of_eq (pay_own1 w r c)) $$ Hp2
  unfold wpc
  rw [wp_ret]; imodintro
  icases Hp1 with ⟨He, Hw⟩
  icases Hp2 with ⟨Hg, Hr⟩
  iapply Hk
  isplitl [He Hg]
  · isplitl [He]; · iexact He
    iexact Hg
  isplitl [Hw Hr]
  · isplitl [Hw]; · iexact Hw
    iexact Hr
  isplitl [Hz1 Hz2]
  · isplitl [Hz1]; · iexact Hz1
    iexact Hz2
  iexact HO

/-! ## The handshake -/

theorem dev1_left (c : Dev nD) : (⟨k0_dev1 c, k0_dev1_lt c⟩ : Dev nD) = bk c 1 :=
  Fin.ext ((k0_dev1_eq c).trans (show (c.val + 15) % 16 = (c.val + 32 - 1) % 16 by omega))
theorem dev2_right (c : Dev nD) : (⟨k0_dev2 c, k0_dev2_lt c⟩ : Dev nD) = fd c 1 := Fin.ext (k0_dev2_eq c)

omit [FloatOps F] in
/-- What device `c` hands its left neighbour: its slots for what comes from there. -/
theorem payT_left (c : Dev nD) : (payT (bk c 1) : sProp 𝕄) = bigSep Finset.univ fun h : Fin 7 => room c (bk c (h.val + 1)) := by
  unfold payT
  exact bigSep_congr fun h _ => by rw [right_left, bk_left c (by have := h.isLt; omega)]
omit [FloatOps F] in
theorem payF_right (c : Dev nD) : (payF (fd c 1) : sProp 𝕄) = bigSep Finset.univ fun h : Fin 8 => room c (fd c (h.val + 1)) := by
  unfold payF
  exact bigSep_congr fun h _ => by rw [left_right, fd_right c (by have := h.isLt; omega)]

/-- Both signals and the wait: the device's free slots against the neighbours'. -/
theorem shake_spec (c : Dev nD) {α : Type} (p : Prog (TpuEff nD τ sig (Elt F) Λ₀ .tc) α) (Q : α → sProp 𝕄) :
    iprop(records w r ∗ levAts L lv
        ∗ ((bigSep Finset.univ fun h : Fin 7 => room c (bk c (h.val + 1))) ∗ bigSep Finset.univ fun h : Fin 8 => room c (fd c (h.val + 1)))
        ∗ (dutyTok ER (barCell (bk c 1)) 0 true ∗ dutyTok ER (barCell (fd c 1)) 0 false)
        ∗ cred (tallyAt (barCell c) () 2) ∗ atPos ER (barCell c) 0 ∅ 0 ∗ ow c (O₀ c))
      ⊢ iprop(((payF c ∗ payT c ∗ semVal (barCell c) 0 ∗ ow c (debt c 0)) -∗ wpc c p Q)
          -∗ wpc c (do
              semSignalWord (⟨k0_dev1 c, k0_dev1_lt c⟩ : Dev nD) barS 1#32
              semSignalWord (⟨k0_dev2 c, k0_dev2_lt c⟩ : Dev nD) barS 1#32
              semWaitWord barS 2#32
              p) Q) := by
  simp only [semSignalWord, semWaitWord, Prog.lift, Prog.bind_op, Prog.bind_ret, Prog.pure_eq_ret, dev1_left c, dev2_right c]
  rw [← payT_left, ← payF_right]
  iintro ⟨#HR, #Hlev, ⟨HT, HF⟩, ⟨Ht1, Ht2⟩, Hc, Ha, HO⟩ Hk
  ihave #H1 := (records_bar w r (bk c 1)) $$ HR
  ihave #H2 := (records_bar w r (fd c 1)) $$ HR
  ihave #H3 := (records_bar w r c) $$ HR
  unfold known ow O₀
  icases H1 with ⟨⟨%κ₁, HI1⟩, HR1⟩
  icases H2 with ⟨⟨%κ₂, HI2⟩, HR2⟩
  icases H3 with ⟨⟨%κ₃, HI3⟩, HR3⟩
  icases HO with ⟨%W, HO⟩
  iapply (Rounds.wp_signal 𝒱₀ ER (Rd w r) (c : Thread nD τ) none (dst := (bk c 1 : Thread nD τ)) (κ := κ₁)
      (d := true) (by rw [duties_bar]; exact Finset.mem_univ _) (show (1 : ℕ) = _ by decide) () (O₁ c) rfl) $$ [HO Ht1 HT]
  · isplitr; · iexact HI1
    isplitl [HO]; · iexact HO
    isplitl [Ht1]; · iexact Ht1
    isplitl [HT]; · iapply (Entails.of_eq (show payT (bk c 1) = (Rd w r).payload (barCell (bk c 1)) 0 true from rfl)); iexact HT
    iexact HR1
  iintro HO
  unfold O₁
  iapply (Rounds.wp_signal 𝒱₀ ER (Rd w r) (c : Thread nD τ) none (dst := (fd c 1 : Thread nD τ)) (κ := κ₂)
      (d := false) (by rw [duties_bar]; exact Finset.mem_univ _) (show (1 : ℕ) = _ by decide) () (debt c 0) rfl) $$ [HO Ht2 HF]
  · isplitr; · iexact HI2
    isplitl [HO]; · iexact HO
    isplitl [Ht2]; · iexact Ht2
    isplitl [HF]; · iapply (Entails.of_eq (show payF (fd c 1) = (Rd w r).payload (barCell (fd c 1)) 0 false from rfl)); iexact HF
    iexact HR2
  iintro HO
  iapply (Rounds.wp_wait_rest_token 𝒱₀ ER (Rd w r) (c : Thread nD τ) none (κ := κ₃)
      (wpE_semWait_eq 𝒱₀ (c : Thread nD τ) none Set.univ) (Set.mem_univ _) () (O := debt c 0) (W := W) (R := 0) (m := 0) (T := ∅)
      (by rw [expect_bar]; decide)) $$ [Hc HO Ha]
  · isplitr; · iexact HI3
    isplitl [Hc]; · iexact Hc
    isplitl [HO]; · iexact HO
    isplitr; · iapply (mayWait c (.reg barS) 1 (Nat.le_refl 1) (above_debt c 0)); iexact Hlev
    iexact Ha
  iintro ⟨HO, Ha, -, Hpay⟩
  imod (Rounds.cell_close ER (Rd w r) (Set.mem_univ κ₃) (fun h => h) (R := 0 + 1) (duties_later w r (barCell c))) $$ [Ha] with Hz
  · isplitr; · iexact HI3
    iexact Ha
  ihave Hp := (Entails.of_eq (rest_bar w r c)) $$ Hpay
  icases Hp with ⟨HF, HT⟩
  iapply Hk
  isplitl [HF]; · iexact HF
  isplitl [HT]; · iexact HT
  isplitl [Hz]; · iexact Hz
  iexists _; iexact HO

/-! ## The whole body -/

def xPts (c : Dev nD) (f : Vec F S512x256 .f32) : sProp 𝕄 := (((c : Thread nD τ).loc cc0_stg0_0) ↦{fullShare} f)
def oPts (c : Dev nD) (f : Vec F S512x512 .f32) : sProp 𝕄 := (((c : Thread nD τ).loc cc0_stg3_0) ↦{fullShare} f)
def ewAll (c : Dev nD) (f : Vec F S16x2x256x512 .f32) : sProp 𝕄 := (((c : Thread nD τ).loc cc0_scratch0) ↦{fullShare} f)
def rgAll (c : Dev nD) (f : Vec F S16x512x1 .i32) : sProp 𝕄 := (((c : Thread nD τ).loc cc0_scratch1) ↦{fullShare} f)

omit [FloatOps F] in
/-- A whole buffer is its sixteen slots. -/
theorem ewAll_slots (c : Dev nD) (f : Vec F S16x2x256x512 .f32) : (ewAll c f : sProp 𝕄) = bigSep Finset.univ fun s : Dev nD => ewPts fullShare c s f := by
  unfold ewAll ewPts
  have h := pointsTo_biUnion (Ix := Unit) (Name := ℕ) (U := UU) (Lvl := ℕ) (ℓ := (c : Thread nD τ).loc cc0_scratch0) (q := fullShare) (f := f) (Finset.univ : Finset (Dev nD)) ewSet (fun s _ t _ h => ewSet_disjoint h)
  rw [show (Finset.univ : Finset (Dev nD)).biUnion ewSet = Finset.univ from ewSet_cover] at h
  exact h
omit [FloatOps F] in
theorem rgAll_slots (c : Dev nD) (f : Vec F S16x512x1 .i32) : (rgAll c f : sProp 𝕄) = bigSep Finset.univ fun s : Dev nD => rgPts fullShare c s f := by
  unfold rgAll rgPts
  have h := pointsTo_biUnion (Ix := Unit) (Name := ℕ) (U := UU) (Lvl := ℕ) (ℓ := (c : Thread nD τ).loc cc0_scratch1) (q := fullShare) (f := f) (Finset.univ : Finset (Dev nD)) rgSet (fun s _ t _ h => rgSet_disjoint h)
  rw [show (Finset.univ : Finset (Dev nD)).biUnion rgSet = Finset.univ from rgSet_cover] at h
  exact h

omit [FloatOps F] in
theorem room_intro (c s : Dev nD) (f : Vec F S16x2x256x512 .f32) (g : Vec F S16x512x1 .i32) :
    iprop(ewPts fullShare c s f ∗ rgPts fullShare c s g) ⊢ (room c s : sProp 𝕄) := by
  unfold room
  iintro ⟨H1, H2⟩
  isplitl [H1]
  · iexists f; iexact H1
  · iexists g; iexact H2
omit [FloatOps F] in
theorem rooms_intro (c : Dev nD) (f : Vec F S16x2x256x512 .f32) (g : Vec F S16x512x1 .i32) :
    iprop(ewAll c f ∗ rgAll c g) ⊢ (bigSep Finset.univ fun s : Dev nD => room c s : sProp 𝕄) := by
  rw [ewAll_slots, rgAll_slots, ← bigSep_sep']
  exact bigSep_mono fun s _ => room_intro c s f g

omit [FloatOps F] in
theorem slots_all (c : Dev nD) :
    (bigSep Finset.univ fun s : Dev nD => slot w r fullShare c s) = iprop(ewAll c (gw w) ∗ rgAll c (gr r)) := by
  rw [ewAll_slots, rgAll_slots, ← bigSep_sep']
  rfl

/-- What the body of device `c` starts with, besides the staging buffers. -/
def bodyIn (c : Dev nD) : sProp 𝕄 :=
  iprop(records w r ∗ levAts L lv
    ∗ (dutyTok ER (barCell (bk c 1)) 0 true ∗ dutyTok ER (barCell (fd c 1)) 0 false)
    ∗ (dutyTok ER (dcell c own0) 0 false ∗ dutyTok ER (dcell c own1) 0 false)
    ∗ (atPos ER (dcell c own0) 0 ∅ 0 ∗ atPos ER (dcell c own1) 0 ∅ 0) ∗ atPos ER (barCell c) 0 ∅ 0
    ∗ cred (tallyAt (barCell c) () 2)
    ∗ (bigSep Finset.univ fun h : Fin 7 => linF c h) ∗ bigSep Finset.univ fun h : Fin 8 => linB c h)
/-- What it ends with: every semaphore of its own and the barrier at zero. -/
def bodyOut (c : Dev nD) : sProp 𝕄 :=
  iprop((semVal (dcell c own0) 0 ∗ semVal (dcell c own1) 0) ∗ semVal (barCell c) 0
    ∗ (bigSep Finset.univ fun h : Fin 7 => doneF c h) ∗ bigSep Finset.univ fun h : Fin 8 => doneB c h)

theorem load_r (v : Vec F S512x1 .i32) :
    k0_pay1 ((riM : Memref sig .tc .vmem S512x1 .i32).view.readAt (Elt F)
      (Rect.unit (s := S512x1) ![0, 0] S512x1.size inb_S512x1_S512x1_0_0).toLoadRect v) = v :=
  (shapeCast_self _ _).trans (Memref.readAt_unit_zero (Elt F) cc0_stg1_0 (funext fun a => by fin_cases a <;> rfl) _ _)
theorem load_x (v : Vec F S512x256 .f32) :
    k0_pay2 ((xM : Memref sig .tc .vmem S512x256 .f32).view.readAt (Elt F)
      (Rect.unit (s := S512x256) ![0, 0] S512x256.size inb_S512x256_S512x256_0_0).toLoadRect v) = v :=
  (shapeCast_self _ _).trans (Memref.readAt_unit_zero (Elt F) cc0_stg0_0 (funext fun a => by fin_cases a <;> rfl) _ _)
theorem load_rg (v : Vec F S16x512x1 .i32) :
    (rgM : Memref sig .tc .vmem S16x512x1 .i32).view.readAt (Elt F)
      (Rect.unit (s := S16x512x1) ![0, 0, 0] S16x512x1.size inb_S16x512x1_S16x512x1_0_0_0).toLoadRect v = v :=
  Memref.readAt_unit_zero (Elt F) cc0_scratch1 (funext fun a => by fin_cases a <;> rfl) _ _
theorem store_o (f v : Vec F S512x512 .f32) :
    ((oM : Memref sig .tc .vmem S512x512 .f32).access (Rect.unit (s := S512x512) ![0, 0] S512x512.size inb_S512x512_S512x512_0_0) : View sig .tc _ _ _).write (Elt F) f v Finset.univ = v :=
  Memref.write_access_unit_zero_univ (Elt F) cc0_stg3_0 (funext fun a => by fin_cases a <;> rfl) _ f v

/-- The device's result from all devices' weights and routing and its own tokens. -/
def result (x : Dev nD → Vec F S512x256 .f32) (c : Dev nD) : Vec F S512x512 .f32 := outVal c (r c) (accAll w c (r c) (x c)) (gr r)

theorem after_start (c : Dev nD) :
    iprop((bigSep Finset.univ fun h : Fin 7 => linF c h) ∗ (bigSep Finset.univ fun h : Fin 8 => linB c h) ∗ payF c ∗ payT c ∗ ow c (debt c 0)) ⊢ after w r c 0 := by
  unfold after hopsF hopsB gotF gotB payF payT
  rw [upTo_zero, upTo_zero, upTo_zero, upTo_zero, bigSep_sep', bigSep_sep',
    show (bigSep Finset.univ fun _ : Fin 7 => (iprop(emp) : sProp 𝕄)) = iprop(emp) from bigSep_emp_const _,
    show (bigSep Finset.univ fun _ : Fin 8 => (iprop(emp) : sProp 𝕄)) = iprop(emp) from bigSep_emp_const _]
  iintro ⟨HF, HB, HpF, HpT, HO⟩
  isplitl [HF HpT]
  · isplitl [HF]; · iexact HF
    iexact HpT
  isplitl [HB HpF]
  · isplitl [HB]; · iexact HB
    iexact HpF
  isplitr; · iempintro
  isplitr; · iempintro
  iexact HO

omit [FloatOps F] in
theorem after_end (c : Dev nD) :
    after w r c 8 ⊢ iprop((bigSep Finset.univ fun h : Fin 7 => doneF c h) ∗ (bigSep Finset.univ fun h : Fin 8 => doneB c h) ∗ gotF w r c 8 ∗ gotB w r c 8 ∗ ow c 0) := by
  unfold after hopsF hopsB
  rw [upTo_all _ _ 8 (by decide), upTo_all _ _ 8 (le_refl _), debt_last]

omit [FloatOps F] in
theorem slots_gather (c : Dev nD) :
    iprop(slot w r fullShare c c ∗ gotF w r c 8 ∗ gotB w r c 8) ⊢ iprop(ewAll c (gw w) ∗ rgAll c (gr r)) := by
  rw [← slots_all, bigSep_places c]
  unfold gotF gotB
  rw [upTo_all _ _ 8 (by decide), upTo_all _ _ 8 (le_refl _)]

set_option maxHeartbeats 1000000 in
theorem body_spec (x : Dev nD → Vec F S512x256 .f32) (c : Dev nD) (Q : PUnit → sProp 𝕄) :
    iprop(bodyIn w r c ∗ ow c (O₀ c) ∗ (∃ f, ewAll c f) ∗ (∃ f, rgAll c f) ∗ xPts c (x c) ∗ riPts c (r c) ∗ wPts c (w c) ∗ (∃ f, oPts c f))
      ⊢ iprop(((bodyOut c ∗ ow c 0 ∗ ewAll c (gw w) ∗ rgAll c (gr r) ∗ xPts c (x c) ∗ riPts c (r c) ∗ wPts c (w c) ∗ oPts c (result w r x c)) -∗ Q ⟨⟩)
          -∗ wpc c moeBody Q) := by
  unfold moeBody bodyIn bodyOut
  iintro ⟨⟨#HR, #Hlev, HtB, HtO, HaO, HaB, HcB, HlF, HlB⟩, HO, ⟨%f₁, He⟩, ⟨%f₂, Hg⟩, Hx, Hr, Hw, ⟨%f₃, Ho⟩⟩ Hk
  unfold wpc
  rw [wp_bind]
  simp only [Prog.lift]
  rw [wp_deviceId, wp_ret]; imodintro
  rw [wp_bind]
  ihave Hrooms := (rooms_intro c f₁ f₂) $$ [He Hg]
  · isplitl [He]; · iexact He
    iexact Hg
  ihave Hrooms := (Entails.of_eq (bigSep_places c fun s => room c s)) $$ Hrooms
  icases Hrooms with ⟨Hroom, HT, HF⟩
  -- its own blocks
  iapply (own_spec w r c (O₀ c) (above_O₀ c)) $$ [Hroom Hw Hr HtO HaO HO]
  · isplitr; · iexact HR
    isplitr; · iexact Hlev
    isplitl [Hroom]; · iexact Hroom
    isplitl [Hw Hr]
    · isplitl [Hw]; · iexact Hw
      iexact Hr
    isplitl [HtO]; · iexact HtO
    isplitl [HaO]; · iexact HaO
    iexact HO
  iintro ⟨Hs, ⟨Hw, Hr⟩, HzO, HO⟩
  -- the handshake
  iapply (shake_spec w r c) $$ [HT HF HtB HcB HaB HO]
  · isplitr; · iexact HR
    isplitr; · iexact Hlev
    isplitl [HT HF]
    · isplitl [HT]; · iexact HT
      iexact HF
    isplitl [HtB]; · iexact HtB
    isplitl [HcB]; · iexact HcB
    isplitl [HaB]; · iexact HaB
    iexact HO
  iintro ⟨HpF, HpT, HzB, HO⟩
  unfold wpc
  rw [wp_bind]
  unfold riPts
  iapply (wp_load 𝒱₀ (c : Thread nD τ) none Set.univ (m := riM) (Finset.subset_univ _)) $$ Hr; iintro Hr
  rw [wp_ret, wp_bind]; imodintro
  unfold xPts
  iapply (wp_load 𝒱₀ (c : Thread nD τ) none Set.univ (m := xM) (Finset.subset_univ _)) $$ Hx; iintro Hx
  rw [wp_ret, wp_bind]; imodintro
  rw [load_r, load_x]
  -- the hops
  iapply (after_hop0 w r c (r c) (x c)) $$ [Hs Hw HlF HlB HpF HpT HO]
  · isplitr; · iexact HR
    isplitr; · iexact Hlev
    isplitl [Hs]; · iexact Hs
    isplitl [Hw]; · iexact Hw
    iapply (after_start w r c)
    isplitl [HlF]; · iexact HlF
    isplitl [HlB]; · iexact HlB
    isplitl [HpF]; · iexact HpF
    isplitl [HpT]; · iexact HpT
    iexact HO
  iintro ⟨Hs, Hw, Ha⟩
  rw [wp_bind]
  iapply (after_hopMid w r c (r c) (x c) 0) $$ [Ha]
  · isplitr; · iexact HR
    isplitr; · iexact Hlev
    iexact Ha
  iintro Ha
  rw [wp_bind]
  iapply (after_hopMid w r c (r c) (x c) 1) $$ [Ha]
  · isplitr; · iexact HR
    isplitr; · iexact Hlev
    iexact Ha
  iintro Ha
  rw [wp_bind]
  iapply (after_hopMid w r c (r c) (x c) 2) $$ [Ha]
  · isplitr; · iexact HR
    isplitr; · iexact Hlev
    iexact Ha
  iintro Ha
  rw [wp_bind]
  iapply (after_hopMid w r c (r c) (x c) 3) $$ [Ha]
  · isplitr; · iexact HR
    isplitr; · iexact Hlev
    iexact Ha
  iintro Ha
  rw [wp_bind]
  iapply (after_hopMid w r c (r c) (x c) 4) $$ [Ha]
  · isplitr; · iexact HR
    isplitr; · iexact Hlev
    iexact Ha
  iintro Ha
  rw [wp_bind]
  iapply (after_hopMid w r c (r c) (x c) 5) $$ [Ha]
  · isplitr; · iexact HR
    isplitr; · iexact Hlev
    iexact Ha
  iintro Ha
  rw [wp_bind]
  iapply (after_hop7 w r c (r c) (x c)) $$ [Ha]
  · isplitr; · iexact HR
    isplitr; · iexact Hlev
    iexact Ha
  iintro Ha
  -- the last slot, all the routing and the result
  ihave Ha := (after_end w r c) $$ Ha
  icases Ha with ⟨HdF, HdB, HgF, HgB, HO⟩
  rw [wp_bind]
  ihave Hl := (gotB_look w r c 7 8 rfl) $$ HgB
  icases Hl with ⟨Hl, HgB⟩
  iapply (loadB_at w r c 7 8 rfl fullShare) $$ Hl
  iintro %v₈ %hv₈ Hl
  ihave HgB := HgB $$ Hl
  rw [show slotW v₈ = w (fd c 8) from hv₈]
  ihave Hall := (slots_gather w r c) $$ [Hs HgF HgB]
  · isplitl [Hs]; · iexact Hs
    isplitl [HgF]; · iexact HgF
    iexact HgB
  icases Hall with ⟨He, Hg⟩
  unfold rgAll
  rw [wp_bind]
  iapply (wp_load 𝒱₀ (c : Thread nD τ) none Set.univ (m := rgM) (Finset.subset_univ _)) $$ Hg; iintro Hg
  rw [wp_ret, load_rg]; imodintro
  unfold oPts
  rw [wp_bind]
  iapply (wp_load 𝒱₀ (c : Thread nD τ) none Set.univ (m := oM) (Finset.subset_univ _)) $$ Ho; iintro Ho
  rw [wp_ret]; imodintro
  iapply (wp_store 𝒱₀ (c : Thread nD τ) none Set.univ (m := oM) (r := Rect.unit (s := S512x512) ![0, 0] S512x512.size inb_S512x512_S512x512_0_0) (Mk := Finset.univ) (Finset.subset_univ _)) $$ Ho; iintro Ho
  rw [store_o, wp_ret]; imodintro
  iapply Hk
  isplitl [HzO HzB HdF HdB]
  · isplitl [HzO]; · iexact HzO
    isplitl [HzB]; · iexact HzB
    isplitl [HdF]; · iexact HdF
    iexact HdB
  isplitl [HO]; · iexact HO
  isplitl [He]; · iexact He
  isplitl [Hg]; · iexact Hg
  isplitl [Hx]; · iexact Hx
  isplitl [Hr]; · iexact Hr
  isplitl [Hw]; · iexact Hw
  iexact Ho

end Cert.KernelIdeal.Moe

end
-- ==== Proof.Words.lean ====
/-
# Words as numbers

The kernel counts with floats that are zero or one, the reference with words. Here: what such a float and such a word are,
as the same natural number, and when a count is below the capacity.
-/
module

public import Idealize.ShloMosaic.Lib.Pointwise

@[expose] public section

noncomputable section

namespace Cert.Moe

open Idealize.ShloMosaic

/-- One if `p` holds, else zero. -/
def ind (p : Prop) [Decidable p] : ℕ := if p then 1 else 0

/-! ## A bit widened -/

theorem widened (b : Bool) : (BitVec.ofBool b).setWidth 32 = BitVec.ofNat 32 (if b then 1 else 0) := by
  cases b <;> rfl

theorem float_bit (b : Bool) : FloatOps.sitofp (F := Ideal) .f32 ((BitVec.ofBool b).setWidth 32) = ((if b then 1 else 0 : ℕ) : EReal) := by
  show ((((BitVec.ofBool b).setWidth 32).toInt : ℝ) : EReal) = _
  cases b
  · rw [show ((BitVec.ofBool false).setWidth 32).toInt = 0 from by decide]; simp
  · rw [show ((BitVec.ofBool true).setWidth 32).toInt = 1 from by decide]; simp

/-- Equality of words as a float. -/
theorem float_eq (a b : BitVec 32) : FloatOps.sitofp (F := Ideal) .f32 ((IntOp.cmpi .eq a b).setWidth 32) = ((ind (a = b) : ℕ) : EReal) := by
  unfold IntOp.cmpi
  rw [float_bit]
  unfold ind
  by_cases h : a = b
  · subst h; simp
  · simp [h]

/-- Equality of words as a word. -/
theorem word_eq (a b : BitVec 32) : (IntOp.cmpi .eq a b).setWidth 32 = BitVec.ofNat 32 (ind (a = b)) := by
  unfold IntOp.cmpi
  rw [widened]
  unfold ind
  by_cases h : a = b
  · subst h; simp
  · simp [h]

theorem slt_small (a b : ℕ) (ha : a < 2 ^ 31) (hb : b < 2 ^ 31) : (BitVec.ofNat 32 a).slt (BitVec.ofNat 32 b) = decide (a < b) := by
  have e : ∀ n : ℕ, n < 2 ^ 31 → (BitVec.ofNat 32 n).toInt = (n : ℤ) := fun n hn => by
    have q : (BitVec.ofNat 32 n).toNat = n := by rw [BitVec.toNat_ofNat]; exact Nat.mod_eq_of_lt (by omega)
    rw [BitVec.toInt_eq_toNat_of_lt (by rw [q]; omega), q]
  unfold BitVec.slt
  rw [e a ha, e b hb]
  simp

/-- The order of two small words as a float. -/
theorem float_lt (a b : ℕ) (ha : a < 2 ^ 31) (hb : b < 2 ^ 31) :
    FloatOps.sitofp (F := Ideal) .f32 ((IntOp.cmpi .slt (BitVec.ofNat 32 a) (BitVec.ofNat 32 b)).setWidth 32) = ((ind (a < b) : ℕ) : EReal) := by
  unfold IntOp.cmpi
  show FloatOps.sitofp (F := Ideal) .f32 ((BitVec.ofBool ((BitVec.ofNat 32 a).slt (BitVec.ofNat 32 b))).setWidth 32) = _
  rw [slt_small a b ha hb, float_bit]
  unfold ind
  by_cases h : a < b <;> simp [h]

/-! ## The capacity -/

theorem capacity : Ideal.ofBits .f32 0x434C0000#32 = ((204 : ℕ) : EReal) := by
  show Ideal.ieee 8 23 0x434C0000#32 = _
  unfold Ideal.ieee
  rw [show ((0x434C0000#32).extractLsb' (8 + 23) 1 == 1#1) = false from by decide, show ((0x434C0000#32).extractLsb' 23 8).toNat = 134 from by decide,
    show ((0x434C0000#32).extractLsb' 0 23).toNat = 4980736 from by decide]
  norm_num
  rfl

theorem below (n k : ℕ) : ((n : ℕ) : EReal) < ((k : ℕ) : EReal) ↔ n < k := by
  exact_mod_cast Iff.rfl

/-- A count below the capacity, as a float. -/
theorem float_below (n : ℕ) :
    FloatOps.sitofp (F := Ideal) .f32 ((BitVec.ofBool (decide (((n : ℕ) : EReal) < Ideal.ofBits .f32 0x434C0000#32))).setWidth 32)
      = ((ind (n < 204) : ℕ) : EReal) := by
  rw [capacity, float_bit]
  unfold ind
  by_cases h : n < 204
  · simp [h, (below n 204).mpr h]
  · rw [if_neg h, if_neg]
    simpa using fun q => h ((below n 204).mp q)

end Cert.Moe

end
-- ==== Proof.Routed.lean ====
/-
# Tokens, experts and the capacity

`8192` tokens, token `t` of device `c` being number `512 c + t`; `32` experts, two to a device. A token goes to the expert that
its word names, if fewer than `204` tokens before it go there. Here: the number of those tokens, split into the tokens of the
devices before and the tokens before on the same device, as the kernel counts it, and taken from a running sum, as the
reference counts it; and the sums over experts that both end in.
-/
module

public import proofs.«01_k».proof.Proof.Words
public import Idealize.ShloMosaic.Lib.Routing.OpsOne

@[expose] public section

noncomputable section

namespace Cert.Moe

open Idealize.ShloMosaic

/-- Token `t` of device `c` among all. -/
def tok (c : Fin 16) (t : Fin 512) : Fin 8192 := ⟨512 * c.val + t.val, by omega⟩

/-- The expert of a device: its first or its second. -/
def expert (o : Fin 16) (j : Fin 2) : Fin 32 := ⟨2 * o.val + j.val, by omega⟩

/-- How many tokens before `g` name expert `e`. -/
def earlier (q : Fin 8192 → BitVec 32) (g : Fin 8192) (e : Fin 32) : ℕ := ∑ g' : Fin 8192, ind (g' < g ∧ q g' = BitVec.ofNat 32 e.val)

/-- What a token gets: its expert's `y`, if that expert has room. -/
def routed (q : Fin 8192 → BitVec 32) (y : Fin 32 → EReal) (g : Fin 8192) : EReal :=
  ∑ e : Fin 32, if q g = BitVec.ofNat 32 e.val ∧ earlier q g e < 204 then y e else 0

/-! ## Sums over all tokens and all experts, device by device -/

theorem sum_tokens {M : Type} [AddCommMonoid M] (f : Fin 8192 → M) : ∑ g, f g = ∑ s : Fin 16, ∑ t : Fin 512, f (tok s t) := by
  rw [← Fintype.sum_prod_type', ← Equiv.sum_comp (finProdFinEquiv : Fin 16 × Fin 512 ≃ Fin (16 * 512)) f]
  exact Finset.sum_congr rfl fun p _ => congrArg f (Fin.ext (Nat.add_comm _ _))

theorem sum_experts {M : Type} [AddCommMonoid M] (f : Fin 32 → M) : ∑ e, f e = ∑ o : Fin 16, (f (expert o 0) + f (expert o 1)) := by
  rw [← Equiv.sum_comp (finProdFinEquiv : Fin 16 × Fin 2 ≃ Fin (16 * 2)) f, Fintype.sum_prod_type]
  refine Finset.sum_congr rfl fun o _ => ?_
  rw [Fin.sum_univ_two]
  exact congrArg₂ _ (congrArg f (Fin.ext (Nat.add_comm _ _))) (congrArg f (Fin.ext (Nat.add_comm _ _)))

/-! ## The number of earlier tokens, device by device -/

theorem tok_lt (s c : Fin 16) (x t : Fin 512) : tok s x < tok c t ↔ s.val < c.val ∨ (s = c ∧ x.val < t.val) := by
  rw [Fin.lt_def, Fin.ext_iff]
  show 512 * s.val + x.val < 512 * c.val + t.val ↔ _
  omega

/-- The tokens before it on its device, and those of the devices before. -/
theorem earlier_split (q : Fin 8192 → BitVec 32) (c : Fin 16) (t : Fin 512) (e : Fin 32) :
    (∑ x : Fin 512, ind (x.val < t.val ∧ q (tok c x) = BitVec.ofNat 32 e.val))
      + ∑ x : Fin 512, ∑ s : Fin 16, ind (q (tok s x) = BitVec.ofNat 32 e.val ∧ s.val < c.val) = earlier q (tok c t) e := by
  unfold earlier
  rw [sum_tokens, Finset.sum_comm (s := (Finset.univ : Finset (Fin 16))), ← Finset.sum_add_distrib]
  refine Finset.sum_congr rfl fun x _ => ?_
  have h : ∀ s : Fin 16, ind (tok s x < tok c t ∧ q (tok s x) = BitVec.ofNat 32 e.val)
      = (if s = c then ind (x.val < t.val ∧ q (tok c x) = BitVec.ofNat 32 e.val) else 0) + ind (q (tok s x) = BitVec.ofNat 32 e.val ∧ s.val < c.val) := fun s => by
    by_cases hs : s = c
    · subst hs
      rw [if_pos rfl]
      simp only [ind, tok_lt, lt_irrefl, and_false, if_false, false_or, true_and, add_zero]
    · rw [if_neg hs, zero_add]
      simp only [ind, tok_lt, hs, false_and, or_false]
      exact if_congr and_comm rfl rfl
  rw [Finset.sum_congr rfl fun s _ => h s, Finset.sum_add_distrib, Finset.sum_ite_eq' Finset.univ c, if_pos (Finset.mem_univ c)]

theorem mul_ind (p r : Prop) [Decidable p] [Decidable r] : ((ind p : ℕ) : EReal) * ((ind r : ℕ) : EReal) = ((ind (p ∧ r) : ℕ) : EReal) := by
  unfold ind
  by_cases hp : p <;> by_cases hr : r <;> simp [hp, hr]

/-- As the kernel counts: with products of floats. -/
theorem earlier_floats (q : Fin 8192 → BitVec 32) (c : Fin 16) (t : Fin 512) (e : Fin 32) :
    (∑ x : Fin 512, ((ind (x.val < t.val) : ℕ) : EReal) * ((ind (q (tok c x) = BitVec.ofNat 32 e.val) : ℕ) : EReal))
      + ∑ x : Fin 512, ∑ s : Fin 16, ((ind (q (tok s x) = BitVec.ofNat 32 e.val) : ℕ) : EReal) * ((ind (s.val < c.val) : ℕ) : EReal)
      = ((earlier q (tok c t) e : ℕ) : EReal) := by
  simp only [mul_ind, ← Nat.cast_sum, ← Nat.cast_add, earlier_split]

/-! ## The number of earlier tokens, from the running sum -/

theorem ind_le (p : Prop) [Decidable p] : ind p ≤ 1 := by unfold ind; split <;> omega

theorem earlier_le (q : Fin 8192 → BitVec 32) (g : Fin 8192) (e : Fin 32) : earlier q g e ≤ 8192 := by
  unfold earlier
  refine (Finset.sum_le_sum fun g' _ => ind_le _).trans ?_
  simp

/-- As the reference counts: the running sum of words, less the token's own. -/
theorem earlier_words (q : Fin 8192 → BitVec 32) (g : Fin 8192) (e : Fin 32) :
    IntOp.subi (∑ g' : Fin 8192, if g' ≤ g then BitVec.ofNat 32 (ind (q g' = BitVec.ofNat 32 e.val)) else 0) (BitVec.ofNat 32 (ind (q g = BitVec.ofNat 32 e.val)))
      = BitVec.ofNat 32 (earlier q g e) := by
  have h : ∀ g' : Fin 8192, (if g' ≤ g then BitVec.ofNat 32 (ind (q g' = BitVec.ofNat 32 e.val)) else 0)
      = BitVec.ofNat 32 (ind (g' < g ∧ q g' = BitVec.ofNat 32 e.val)) + (if g' = g then BitVec.ofNat 32 (ind (q g = BitVec.ofNat 32 e.val)) else 0) := fun g' => by
    rcases lt_trichotomy g' g with hl | rfl | hl
    · rw [if_pos hl.le, if_neg hl.ne]
      simp only [ind, hl, true_and]
      exact (add_zero _).symm
    · rw [if_pos le_rfl, if_pos rfl]
      simp only [ind, lt_irrefl, false_and, if_false]
      exact (zero_add _).symm
    · rw [if_neg (not_le.mpr hl), if_neg hl.ne']
      simp only [ind, not_lt.mpr hl.le, false_and, if_false]
      rfl
  rw [Finset.sum_congr rfl fun g' _ => h g', Finset.sum_add_distrib, Finset.sum_ite_eq' Finset.univ g, if_pos (Finset.mem_univ g)]
  show _ + _ - _ = _
  rw [add_sub_cancel_right]
  unfold earlier
  simp only [← BitVec.natCast_eq_ofNat, Nat.cast_sum]

theorem below_words (q : Fin 8192 → BitVec 32) (g : Fin 8192) (e : Fin 32) :
    IntOp.cmpi .slt (BitVec.ofNat 32 (earlier q g e)) 204#32 = BitVec.ofBool (decide (earlier q g e < 204)) := by
  have h := earlier_le q g e
  exact congrArg BitVec.ofBool (slt_small _ 204 (by omega) (by norm_num))

/-! ## The sum over the experts -/

/-- The kernel takes the expert's `y` first and then asks for room. -/
theorem gated (q : Fin 8192 → BitVec 32) (y : Fin 32 → EReal) (g : Fin 8192) :
    (∑ e : Fin 32, if q g = BitVec.ofNat 32 e.val then y e else 0)
        * ∑ e : Fin 32, ((ind (q g = BitVec.ofNat 32 e.val) : ℕ) : EReal) * ((ind (earlier q g e < 204) : ℕ) : EReal)
      = routed q y g := by
  unfold routed
  by_cases h : ∃ e : Fin 32, q g = BitVec.ofNat 32 e.val
  · obtain ⟨e, he⟩ := h
    have hne : ∀ e' : Fin 32, e' ≠ e → q g ≠ BitVec.ofNat 32 e'.val := fun e' hn hq => hn (Fin.ext (by
      have h1 := congrArg BitVec.toNat (he.symm.trans hq)
      rw [BitVec.toNat_ofNat, BitVec.toNat_ofNat, Nat.mod_eq_of_lt (by omega), Nat.mod_eq_of_lt (by omega)] at h1
      exact h1.symm))
    rw [Finset.sum_eq_single e (fun e' _ hn => if_neg (hne e' hn)) (fun h => absurd (Finset.mem_univ e) h),
      Finset.sum_eq_single e (fun e' _ hn => by rw [show ind (q g = BitVec.ofNat 32 e'.val) = 0 from if_neg (hne e' hn), Nat.cast_zero, zero_mul]) (fun h => absurd (Finset.mem_univ e) h),
      Finset.sum_eq_single e (fun e' _ hn => if_neg fun q => hne e' hn q.1) (fun h => absurd (Finset.mem_univ e) h), if_pos he]
    unfold ind
    by_cases hr : earlier q g e < 204
    · rw [if_pos he, if_pos hr, if_pos ⟨he, hr⟩, Nat.cast_one, mul_one, mul_one]
    · rw [if_neg hr, if_neg (fun h => hr h.2 : ¬(q g = BitVec.ofNat 32 e.val ∧ earlier q g e < 204)), Nat.cast_zero, mul_zero, mul_zero]
  · have hn : ∀ e : Fin 32, q g ≠ BitVec.ofNat 32 e.val := fun e he => h ⟨e, he⟩
    rw [Finset.sum_eq_zero fun e _ => if_neg (hn e), zero_mul, Finset.sum_eq_zero fun e _ => if_neg fun q => hn e q.1]

end Cert.Moe

end
-- ==== Proof.KernelValue.lean ====
/-
# What the kernel computes

Over the ideal numbers. Its sum over the devices' experts is, whichever way round the ring the weights came, the sum over all
experts, each taken where the token names it; its factor is one where the token's expert has room, else zero.
-/
module

public import proofs.«01_k».proof.Proof.Body
public import proofs.«01_k».proof.Proof.Routed

@[expose] public section

noncomputable section

namespace Cert.KernelIdeal.Moe

open Cert.KernelIdeal Cert.KernelIdeal.Gen Cert.Moe
open Idealize.ShloMosaic

/-! ## The devices' numbers -/

theorem me_word : ∀ c : Dev nD, me c = BitVec.ofNat 32 c.val := by decide
theorem fromL_word : ∀ (c : Dev nD) (k : Fin 9), fromL c (BitVec.ofNat 32 k.val) = BitVec.ofNat 32 (bk c k.val).val := by decide
theorem fromR_word : ∀ (c : Dev nD) (k : Fin 9), fromR c (BitVec.ofNat 32 k.val) = BitVec.ofNat 32 (fd c k.val).val := by decide

theorem first_word : ∀ o : Dev nD, Scalar.addi (Scalar.muli (BitVec.ofNat 32 o.val) 2#32) 0#32 = BitVec.ofNat 32 (expert o 0).val := by decide
theorem second_word : ∀ o : Dev nD, Scalar.addi (Scalar.muli (BitVec.ofNat 32 o.val) 2#32) 1#32 = BitVec.ofNat 32 (expert o 1).val := by decide

/-! ## The sum over the experts -/

section Sum
variable (ridx : IVec S512x1 32) (xv : FVec Ideal S512x256 .f32)

/-- One expert's part at a token and a column, its weights `w`. -/
def pick (e : Fin 32) (w : Fin 256 → EReal) (t : Fin 512) : EReal :=
  if ridx (ix2 t 0) = BitVec.ofNat 32 e.val then ∑ d : Fin 256, xv (ix2 t d) * w d else 0

theorem masked_sum (e : Fin 32) (w : Fin 256 → EReal) (t : Fin 512) :
    ∑ d : Fin 256, xv (ix2 t d) * ((ind (ridx (ix2 t 0) = BitVec.ofNat 32 e.val) : ℕ) : EReal) * w d = pick ridx xv e w t := by
  unfold pick ind
  split
  · exact Finset.sum_congr rfl fun d _ => by rw [Nat.cast_one, mul_one]
  · exact Finset.sum_eq_zero fun d _ => by rw [Nat.cast_zero, mul_zero, zero_mul]

/-- A device's two experts' part. -/
def both (o : Dev nD) (w : FVec Ideal S2x256x512 .f32) (t h : Fin 512) : EReal :=
  pick ridx xv (expert o 0) (fun d => w (ix3 0 d h)) t + pick ridx xv (expert o 1) (fun d => w (ix3 1 d h)) t

set_option maxRecDepth 16384 in
theorem contrib_apply (acc : FVec Ideal S512x512 .f32) (o : Dev nD) (w : FVec Ideal S2x256x512 .f32) (t h : Fin 512) :
    contrib ridx xv acc (BitVec.ofNat 32 o.val) w (ix2 t h) = acc (ix2 t h) + both ridx xv o w t h := by
  pointwise [contrib, part]
  rw [first_word, second_word, float_eq, float_eq, masked_sum ridx xv (expert o 0) (fun d => w (ix3 0 d h)),
    masked_sum ridx xv (expert o 1) (fun d => w (ix3 1 d h)), add_assoc]
  rfl

variable (w : Dev nD → FVec Ideal S2x256x512 .f32)

/-- The sum after hop `n`. -/
theorem accAt_apply (c : Dev nD) (t h : Fin 512) (n : ℕ) (hn : n ≤ 7) :
    accAt w c ridx xv n (ix2 t h) = both ridx xv c (w c) t h
      + ∑ k ∈ Finset.range n, (both ridx xv (bk c (k + 1)) (w (bk c (k + 1))) t h + both ridx xv (fd c (k + 1)) (w (fd c (k + 1))) t h) := by
  induction n with
  | zero =>
    rw [Finset.range_zero, Finset.sum_empty, add_zero]
    unfold accAt
    rw [me_word, contrib_apply]
    exact (congrArg (· + _) Ideal.ofBits_zero_f32).trans (zero_add _)
  | succ n ih =>
    unfold accAt
    rw [show BitVec.ofNat 32 (1 + n) = BitVec.ofNat 32 ((⟨n + 1, by omega⟩ : Fin 9).val) from congrArg _ (Nat.add_comm _ _), fromL_word, fromR_word,
      contrib_apply, contrib_apply, ih (by omega), Finset.sum_range_succ, add_assoc, add_assoc]

/-- A sum over the devices is the device's own, then those that come from the left and from the right. -/
theorem sum_places {M : Type} [AddCommMonoid M] (c : Dev nD) (f : Dev nD → M) :
    ∑ o, f o = f c + (∑ k : Fin 7, f (bk c (k.val + 1)) + ∑ k : Fin 8, f (fd c (k.val + 1))) := by
  rw [← Equiv.sum_comp (placeEquiv c) f, Fintype.sum_sum_type, Fintype.sum_sum_type, Fintype.sum_unique]
  rfl

/-- The whole sum: every device's. -/
theorem accAll_apply (c : Dev nD) (t h : Fin 512) : accAll w c ridx xv (ix2 t h) = ∑ o, both ridx xv o (w o) t h := by
  unfold accAll
  rw [show (8#32 : BitVec 32) = BitVec.ofNat 32 ((8 : Fin 9).val) from rfl, fromR_word, contrib_apply, accAt_apply ridx xv w c t h 7 le_rfl, sum_places c,
    Finset.sum_add_distrib, Fin.sum_univ_castSucc (n := 7), Finset.sum_range, Finset.sum_range, add_assoc, add_assoc]
  rfl

/-- In terms of all experts' weights. -/
theorem accAll_experts (c : Dev nD) (t h : Fin 512) (W : FVec Ideal ⟨3, ![32, 256, 512]⟩ .f32)
    (hW : ∀ (o : Dev nD) (j : Fin 2) (d : Fin 256) (h : Fin 512), w o (ix3 j d h) = W (ix3 (expert o j) d h)) :
    accAll w c ridx xv (ix2 t h)
      = ∑ e : Fin 32, if ridx (ix2 t 0) = BitVec.ofNat 32 e.val then ∑ d : Fin 256, xv (ix2 t d) * W (ix3 e d h) else 0 := by
  rw [accAll_apply, sum_experts]
  refine Finset.sum_congr rfl fun o _ => ?_
  unfold both pick
  simp only [hW]
end Sum

/-! ## The room -/

section Room
variable (r : Dev nD → IVec S512x1 32) (q : Fin 8192 → BitVec 32)

theorem onehot_apply (ridx : IVec S512x1 32) (t : Fin 512) (e : Fin 32) :
    k0_pay33 (F := Ideal) ridx (ix2 t e) = ((ind (ridx (ix2 t 0) = BitVec.ofNat 32 e.val) : ℕ) : EReal) := by
  rw [← float_eq]
  pointwise [k0_pay33]

set_option maxRecDepth 16384 in
theorem counts_apply (c : Dev nD) (e : Fin 32) (hq : ∀ s t, r s (ix2 t 0) = q (tok s t)) :
    k0_pay32 (F := Ideal) (me c) (gr (F := Ideal) r) (ix2 0 e)
      = ∑ x : Fin 512, ∑ s : Fin 16, ((ind (q (tok s x) = BitVec.ofNat 32 e.val) : ℕ) : EReal) * ((ind (s.val < c.val) : ℕ) : EReal) := by
  pointwise [k0_pay32]
  refine Finset.sum_congr rfl fun x _ => Finset.sum_congr rfl fun s _ => ?_
  rw [me_word, float_eq, float_lt _ _ (by have := s.isLt; omega) (by have := lt16 c; omega), ← hq s x]
  rfl

set_option maxRecDepth 16384 in
/-- The result at a token and a column. -/
theorem result_apply (x : Dev nD → FVec Ideal S512x256 .f32) (w : Dev nD → FVec Ideal S2x256x512 .f32) (c : Dev nD) (t h : Fin 512)
    (X : FVec Ideal ⟨2, ![8192, 256]⟩ .f32) (W : FVec Ideal ⟨3, ![32, 256, 512]⟩ .f32)
    (hX : ∀ d : Fin 256, x c (ix2 t d) = X (ix2 (tok c t) d))
    (hq : ∀ s t, r s (ix2 t 0) = q (tok s t))
    (hW : ∀ (o : Dev nD) (j : Fin 2) (d : Fin 256) (h : Fin 512), w o (ix3 j d h) = W (ix3 (expert o j) d h)) :
    result (F := Ideal) w r x c (ix2 t h) = routed q (fun e => ∑ d : Fin 256, X (ix2 (tok c t) d) * W (ix3 e d h)) (tok c t) := by
  unfold result outVal
  pointwise [k0_pay34]
  rw [accAll_experts (r c) (x c) w c t h W hW, ← gated]
  refine congrArg₂ (· * ·) ?_ (Finset.sum_congr rfl fun e _ => ?_)
  · simp only [hX, hq]
  · rw [onehot_apply, hq, counts_apply r q c e hq]
    refine congrArg₂ (· * ·) rfl ?_
    rw [← float_below, ← earlier_floats]
    simp only [onehot_apply, hq, float_lt _ _ (lt_trans (Fin.isLt _) (by norm_num : 512 < 2 ^ 31)) (lt_trans (Fin.isLt _) (by norm_num : 512 < 2 ^ 31))]
end Room

end Cert.KernelIdeal.Moe

end
-- ==== Proof.RefValue.lean ====
/-
# What the reference computes

Every token's sum over the experts, the expert's product taken where the token goes there and there is room.
-/
module

public import proofs.«01_k».proof.Proof.Gen.ReferenceIdeal.Run
public import proofs.«01_k».proof.Proof.Routed

@[expose] public section

noncomputable section

namespace Cert.ReferenceIdeal.Moe

open Cert.ReferenceIdeal Cert.ReferenceIdeal.Gen Cert.Moe
open Idealize.ShloMosaic

attribute [local instance] Cert.ReferenceIdeal.Gen.facts

/-- Which expert each token names, as bits. -/
def chosen (q : IVec S8192x1 32) : IVec S8192x32 1 :=
  cmpi .eq
    (broadcastInDim S8192x32 ![0, 1] bcast_S8192x1_S8192x32_0_1
      (broadcastInDim S8192x1 ![0] bcast_S8192_S8192x1_0 (shapeCast _ q shapeCasts_S8192x1_S8192)))
    (broadcastInDim S8192x32 ![0, 1] bcast_S1x32_S8192x32_0_1 (iotaInDim S1x32 32 1))

/-- The running count of each expert's tokens. -/
def running (q : IVec S8192x1 32) : IVec S8192x32 32 :=
  Host.reduceWindow IntOp.addi ![8192, 1] ![1, 1] ![8191, 0] ![0, 0] (extui 32 (chosen q) natLt_1_32)
    (broadcastInDim S_ ![] bcast_S_S_ (constantI S_ 32 0#32)) reduceWindows_S8192x32_S8192x32_w8192s1p8191_0_w1s1p0_0 h_S_

/-- The tokens of each expert that have room. -/
def taken (q : IVec S8192x1 32) : IVec S8192x32 1 :=
  andi (cmpi .eq (extui 32 (chosen q) natLt_1_32) (broadcastInDim S8192x32 ![] bcast_S_S8192x32 (constantI S_ 32 1#32)))
    (cmpi .slt (subi (running q) (extui 32 (chosen q) natLt_1_32)) (broadcastInDim S8192x32 ![] bcast_S_S8192x32 (constantI S_ 32 204#32)))

/-- The reference's result. -/
def total (x : FVec Ideal S8192x256 .f32) (q : IVec S8192x1 32) (w : FVec Ideal S32x256x512 .f32) : FVec Ideal S8192x512 .f32 :=
  Host.reduceAdd
    (select
      (broadcastInDim S8192x32x512 ![0, 1, 2] bcast_S8192x32x1_S8192x32x512_0_1_2
        (broadcastInDim S8192x32x1 ![0, 1] bcast_S8192x32_S8192x32x1_0_1 (taken q)))
      (Host.dotGeneral dot_S8192x256_S32x256x512_S8192x32x512_1_1_0_02_n_n none x w)
      (broadcastInDim S8192x32x512 ![] bcast_S_S8192x32x512 (id (constant S_ .f32 0x00000000#32))))
    (constant S_ .f32 0x00000000#32) reducesTo_S8192x32x512_S8192x512_d1 h_S_

/-- The tokens' words. -/
abbrev names (q : IVec S8192x1 32) : Fin 8192 → BitVec 32 := fun g => q (ix2 g 0)

theorem chosen_apply (q : IVec S8192x1 32) (g : Fin 8192) (e : Fin 32) :
    chosen q (ix2 g e) = IntOp.cmpi .eq (names q g) (BitVec.ofNat 32 e.val) := by
  pointwise [chosen]

theorem chosen_word (q : IVec S8192x1 32) (g : Fin 8192) (e : Fin 32) :
    extui 32 (chosen q) natLt_1_32 (ix2 g e) = BitVec.ofNat 32 (ind (names q g = BitVec.ofNat 32 e.val)) := by
  rw [← word_eq, ← chosen_apply]
  rfl

theorem running_apply (q : IVec S8192x1 32) (g : Fin 8192) (e : Fin 32) :
    running q (ix2 g e) = ∑ g' : Fin 8192, if g' ≤ g then BitVec.ofNat 32 (ind (names q g' = BitVec.ofNat 32 e.val)) else 0 := by
  unfold running
  rw [ix2_eq_valueIdx, Routing.cumsum_rows_sum (A := 8192) (Am1 := 8191) (N := 32) rfl _ _ rfl]
  exact Finset.sum_congr rfl fun g' _ => if_congr Iff.rfl (chosen_word q g' e) rfl

theorem taken_apply (q : IVec S8192x1 32) (g : Fin 8192) (e : Fin 32) :
    taken q (ix2 g e) = BitVec.ofBool (decide (names q g = BitVec.ofNat 32 e.val ∧ earlier (names q) g e < 204)) := by
  show IntOp.andi (IntOp.cmpi .eq (extui 32 (chosen q) natLt_1_32 (ix2 g e)) 1#32)
    (IntOp.cmpi .slt (IntOp.subi (running q (ix2 g e)) (extui 32 (chosen q) natLt_1_32 (ix2 g e))) 204#32) = _
  rw [chosen_word, running_apply, earlier_words, below_words]
  unfold ind
  by_cases h : names q g = BitVec.ofNat 32 e.val
  · rw [if_pos h, IntOp.cmpi_eq_self]
    by_cases hr : earlier (names q) g e < 204
    · rw [decide_eq_true hr, decide_eq_true ⟨h, hr⟩]; rfl
    · rw [decide_eq_false hr, decide_eq_false fun k => hr k.2]; rfl
  · rw [if_neg h, decide_eq_false fun k : names q g = BitVec.ofNat 32 e.val ∧ earlier (names q) g e < 204 => h k.1]
    exact BitVec.zero_and

set_option maxRecDepth 16384 in
/-- The result at a token and a column. -/
theorem total_apply (x : FVec Ideal S8192x256 .f32) (q : IVec S8192x1 32) (w : FVec Ideal S32x256x512 .f32) (g : Fin 8192) (h : Fin 512) :
    total x q w (ix2 g h) = routed (names q) (fun e => ∑ d : Fin 256, x (ix2 g d) * w (ix3 e d h)) g := by
  pointwise [total]
  unfold routed
  refine Finset.sum_congr rfl fun e _ => ?_
  rw [taken_apply]
  by_cases hk : names q g = BitVec.ofNat 32 e.val ∧ earlier (names q) g e < 204
  · rw [if_pos hk, decide_eq_true hk]
    rfl
  · rw [if_neg hk, decide_eq_false hk]
    exact Ideal.ofBits_zero_f32

set_option maxRecDepth 16384 in
/-- Its run. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12)
          = total (m ((c.tc : Thread nD τ).loc main_arg0)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  Cert.ReferenceIdeal.Value.run (F := Ideal) m ρ

end Cert.ReferenceIdeal.Moe

end
-- ==== Proof.Cells.lean ====
/-
# The semaphores of a device, hop by hop

A device's 62 semaphores of its own, listed by number at launch, are four to each hop and one to each of its own two copies.
Here facts about all of them are regrouped that way: the duties, dealt to the devices that pay them, and the credit for what
the neighbours' copies bring.
-/
module

public import proofs.«01_k».proof.Proof.Body

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## All semaphores, hop by hop -/

/-- The number-th of the device's own semaphores. -/
def dmaAt (k : Fin 62) : DmaSem sig := ⟨4 + k.val, by show 4 + k.val < 66; omega⟩
abbrev osem (k : Fin 62) : SemLoc sig := .dma (dmaAt k)

/-- Which semaphore a hop's copy uses: 0, 1 for what is sent (weights, routing), 2, 3 for what comes. -/
def semF (h : Fin 7) : Fin 4 → DmaSem sig := fun | 0 => fwS h | 1 => frS h | 2 => fwR h | 3 => frR h
def semB (h : Fin 8) : Fin 4 → DmaSem sig := fun | 0 => bwS h | 1 => brS h | 2 => bwR h | 3 => brR h
def semO : Fin 2 → DmaSem sig := fun | 0 => own0 | 1 => own1
def semOf : (Fin 7 × Fin 4) ⊕ ((Fin 8 × Fin 4) ⊕ Fin 2) → DmaSem sig
  | .inl p => semF p.1 p.2
  | .inr (.inl p) => semB p.1 p.2
  | .inr (.inr i) => semO i
theorem semOf_low (a : (Fin 7 × Fin 4) ⊕ ((Fin 8 × Fin 4) ⊕ Fin 2)) : 4 ≤ (semOf a).val := by revert a; decide
/-- Its place in the list. -/
def placeOf (a : (Fin 7 × Fin 4) ⊕ ((Fin 8 × Fin 4) ⊕ Fin 2)) : Fin 62 :=
  ⟨(semOf a).val - 4, by have h : (semOf a).val < 66 := (semOf a).isLt; have := semOf_low a; omega⟩
theorem dmaAt_placeOf (a : (Fin 7 × Fin 4) ⊕ ((Fin 8 × Fin 4) ⊕ Fin 2)) : dmaAt (placeOf a) = semOf a := by
  have := semOf_low a
  exact Fin.ext (by show 4 + ((semOf a).val - 4) = (semOf a).val; omega)
theorem placeOf_surjective : Function.Surjective placeOf := by decide +kernel
def semEquiv : (Fin 7 × Fin 4) ⊕ ((Fin 8 × Fin 4) ⊕ Fin 2) ≃ Fin 62 :=
  Equiv.ofBijective placeOf ((Fintype.bijective_iff_surjective_and_card _).mpr ⟨placeOf_surjective, by decide⟩)

omit [FloatOps F] in
/-- One entailment, in the form the proof mode takes. -/
theorem turn {A B : sProp 𝕄} (h : Idealize.SL.BI.Entails A B) : A ⊢ B := h
omit [FloatOps F] in
theorem bigSep_two (Φ : Fin 2 → sProp 𝕄) : bigSep Finset.univ Φ = iprop(Φ 0 ∗ Φ 1) :=
  bigSep_univ_eq_bigSepL [0, 1] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_dma (Φ : DmaSem sig → sProp 𝕄) :
    (bigSep Finset.univ fun k : Fin 62 => Φ (dmaAt k))
      = iprop((bigSep Finset.univ fun h : Fin 7 => iprop(Φ (fwS h) ∗ Φ (frS h) ∗ Φ (fwR h) ∗ Φ (frR h)))
          ∗ (bigSep Finset.univ fun h : Fin 8 => iprop(Φ (bwS h) ∗ Φ (brS h) ∗ Φ (bwR h) ∗ Φ (brR h))) ∗ Φ own0 ∗ Φ own1) := by
  rw [bigSep_univ_equiv semEquiv, bigSep_univ_sum, bigSep_univ_sum, bigSep_univ_prod, bigSep_univ_prod, bigSep_two]
  have e (a) : dmaAt (semEquiv a) = semOf a := dmaAt_placeOf a
  simp only [e, bigSep_four]
  rfl
omit [FloatOps F] in
/-- Over a device's own semaphores and its barrier. -/
theorem bigSep_kcell (c : Dev nD) (Φ : GSem nD τ sig → sProp 𝕄) :
    (bigSep Finset.univ fun k : Fin 63 => Φ (kcell (c, k)))
      = iprop((bigSep Finset.univ fun k : Fin 62 => Φ (dcell c (dmaAt k))) ∗ Φ (barCell c)) := by
  rw [bigSep_univ_equiv (finSumFinEquiv (m := 62) (n := 1)), bigSep_univ_sum]
  refine congrArg₂ _ (bigSep_congr fun k _ => congrArg Φ (congrArg (Prod.mk _) ?_)) ?_
  · exact dif_pos k.isLt
  · exact bigSep_univ_eq_bigSepL [0] (by decide) (by decide) _

/-! ## The duties -/

/-- Every token of device `c`'s own semaphores. -/
def toks (c : Dev nD) : sProp 𝕄 :=
  iprop((bigSep Finset.univ fun k : Fin 63 => dutyTok ER (kcell (c, k)) 0 false) ∗ dutyTok ER (barCell c) 0 true)
/-- The tokens device `c` pays with, but for the hops. -/
def payOwn (c : Dev nD) : sProp 𝕄 := iprop(dutyTok ER (dcell c own0) 0 false ∗ dutyTok ER (dcell c own1) 0 false)
def payBar (c : Dev nD) : sProp 𝕄 := iprop(dutyTok ER (barCell (bk c 1)) 0 true ∗ dutyTok ER (barCell (fd c 1)) 0 false)

/-- The ring, one place to the right. -/
def ring : Dev nD ≃ Dev nD := ⟨fun c => fd c 1, fun c => bk c 1, left_right, right_left⟩

/-- The two tokens of one hop at the sender's, at the receiver's semaphores. -/
def sentF (c : Dev nD) (h : Fin 7) : sProp 𝕄 := iprop(dutyTok ER (dcell c (fwS h)) 0 false ∗ dutyTok ER (dcell c (frS h)) 0 false)
def gotTokF (c : Dev nD) (h : Fin 7) : sProp 𝕄 := iprop(dutyTok ER (dcell c (fwR h)) 0 false ∗ dutyTok ER (dcell c (frR h)) 0 false)
def sentB (c : Dev nD) (h : Fin 8) : sProp 𝕄 := iprop(dutyTok ER (dcell c (bwS h)) 0 false ∗ dutyTok ER (dcell c (brS h)) 0 false)
def gotTokB (c : Dev nD) (h : Fin 8) : sProp 𝕄 := iprop(dutyTok ER (dcell c (bwR h)) 0 false ∗ dutyTok ER (dcell c (brR h)) 0 false)

omit [FloatOps F] in
theorem sep_two_two (A B C D : sProp 𝕄) : iprop(A ∗ B ∗ C ∗ D) ⊢ iprop((A ∗ B) ∗ C ∗ D) := by
  iintro ⟨HA, HB, HC, HD⟩
  isplitl [HA HB]
  · isplitl [HA]; · iexact HA
    iexact HB
  isplitl [HC]; · iexact HC
  iexact HD
omit [FloatOps F] in
theorem sep_two_two' (A B C D : sProp 𝕄) : iprop((A ∗ B) ∗ C ∗ D) ⊢ iprop(A ∗ B ∗ C ∗ D) := by
  iintro ⟨⟨HA, HB⟩, HC, HD⟩
  isplitl [HA]; · iexact HA
  isplitl [HB]; · iexact HB
  isplitl [HC]; · iexact HC
  iexact HD

omit [FloatOps F] in
theorem toks_split (c : Dev nD) :
    (toks c : sProp 𝕄) ⊢ iprop((bigSep Finset.univ fun h : Fin 7 => sentF c h) ∗ (bigSep Finset.univ fun h : Fin 7 => gotTokF c h)
      ∗ (bigSep Finset.univ fun h : Fin 8 => sentB c h) ∗ (bigSep Finset.univ fun h : Fin 8 => gotTokB c h)
      ∗ payOwn c ∗ dutyTok ER (barCell c) 0 false ∗ dutyTok ER (barCell c) 0 true) := by
  unfold toks payOwn
  rw [bigSep_kcell c fun g => (dutyTok ER g 0 false : sProp 𝕄), bigSep_dma fun q => (dutyTok ER (dcell c q) 0 false : sProp 𝕄)]
  have hF := turn <| (bigSep_mono fun (h : Fin 7) (_ : h ∈ Finset.univ) => (sep_two_two (F := F) (dutyTok ER (dcell c (fwS h)) 0 false) (dutyTok ER (dcell c (frS h)) 0 false)
    (dutyTok ER (dcell c (fwR h)) 0 false) (dutyTok ER (dcell c (frR h)) 0 false))).trans
      (Entails.of_eq (bigSep_sep' Finset.univ (fun h : Fin 7 => sentF (F := F) c h) (fun h => gotTokF c h)))
  have hB := turn <| (bigSep_mono fun (h : Fin 8) (_ : h ∈ Finset.univ) => (sep_two_two (F := F) (dutyTok ER (dcell c (bwS h)) 0 false) (dutyTok ER (dcell c (brS h)) 0 false)
    (dutyTok ER (dcell c (bwR h)) 0 false) (dutyTok ER (dcell c (brR h)) 0 false))).trans
      (Entails.of_eq (bigSep_sep' Finset.univ (fun h : Fin 8 => sentB (F := F) c h) (fun h => gotTokB c h)))
  iintro ⟨⟨⟨HF, HB, HO⟩, Hb⟩, Ht⟩
  ihave HF := hF $$ HF
  ihave HB := hB $$ HB
  icases HF with ⟨H1, H2⟩
  icases HB with ⟨H3, H4⟩
  isplitl [H1]; · iexact H1
  isplitl [H2]; · iexact H2
  isplitl [H3]; · iexact H3
  isplitl [H4]; · iexact H4
  isplitl [HO]; · iexact HO
  isplitl [Hb]; · iexact Hb
  iexact Ht

omit [FloatOps F] in
theorem toks_join (c : Dev nD) :
    iprop((bigSep Finset.univ fun h : Fin 7 => sentF c h) ∗ (bigSep Finset.univ fun h : Fin 7 => gotTokF (fd c 1) h)
      ∗ (bigSep Finset.univ fun h : Fin 8 => sentB c h) ∗ (bigSep Finset.univ fun h : Fin 8 => gotTokB (bk c 1) h)
      ∗ payOwn c ∗ dutyTok ER (barCell (fd c 1)) 0 false ∗ dutyTok ER (barCell (bk c 1)) 0 true)
    ⊢ (iprop(payBar c ∗ payOwn c ∗ (bigSep Finset.univ fun h : Fin 7 => tokF c h) ∗ bigSep Finset.univ fun h : Fin 8 => tokB c h) : sProp 𝕄) := by
  have hF := turn <| (Entails.of_eq (bigSep_sep' Finset.univ (fun h : Fin 7 => sentF (F := F) c h) (fun h => gotTokF (fd c 1) h)).symm).trans
    (bigSep_mono (Ψ := fun h : Fin 7 => tokF c h) fun (h : Fin 7) (_ : h ∈ Finset.univ) => sep_two_two' (F := F) _ _ _ _)
  have hB := turn <| (Entails.of_eq (bigSep_sep' Finset.univ (fun h : Fin 8 => sentB (F := F) c h) (fun h => gotTokB (bk c 1) h)).symm).trans
    (bigSep_mono (Ψ := fun h : Fin 8 => tokB c h) fun (h : Fin 8) (_ : h ∈ Finset.univ) => sep_two_two' (F := F) _ _ _ _)
  iintro ⟨H1, H2, H3, H4, HO, Hf, Ht⟩
  ihave HF := hF $$ [H1 H2]
  · isplitl [H1]; · iexact H1
    iexact H2
  ihave HB := hB $$ [H3 H4]
  · isplitl [H3]; · iexact H3
    iexact H4
  unfold payBar
  isplitl [Hf Ht]
  · isplitl [Ht]; · iexact Ht
    iexact Hf
  isplitl [HO]; · iexact HO
  isplitl [HF]; · iexact HF
  iexact HB

omit [FloatOps F] in
/-- The tokens dealt round the ring to the devices that pay with them. -/
theorem toks_around : (bigSep Finset.univ fun c : Dev nD => (toks c : sProp 𝕄)) ⊢ bigSep Finset.univ fun c : Dev nD =>
    iprop(payBar c ∗ payOwn c ∗ (bigSep Finset.univ fun h : Fin 7 => tokF c h) ∗ bigSep Finset.univ fun h : Fin 8 => tokB c h) := by
  refine BI.Entails.trans (bigSep_mono fun c _ => toks_split c) (BI.Entails.trans ?_ (bigSep_mono fun c _ => toks_join c))
  simp only [bigSep_sep' (M := 𝕄) (I := Dev nD)]
  rw [bigSep_univ_equiv ring (fun c : Dev nD => (bigSep Finset.univ fun h : Fin 7 => (gotTokF c h : sProp 𝕄))),
    bigSep_univ_equiv ring.symm (fun c : Dev nD => (bigSep Finset.univ fun h : Fin 8 => (gotTokB c h : sProp 𝕄))),
    bigSep_univ_equiv ring (fun c : Dev nD => (dutyTok ER (barCell c) 0 false : sProp 𝕄)),
    bigSep_univ_equiv ring.symm (fun c : Dev nD => (dutyTok ER (barCell c) 0 true : sProp 𝕄))]
  exact BI.Entails.refl _

/-! ## The credit -/

/-- What the copies to the right, to the left bring to a semaphore of the receiver's. -/
def cntF (q : DmaSem sig) : ℕ := ∑ h : Fin 7, ((if q = frR h then NR else 0) + if q = fwR h then NE else 0)
def cntB (q : DmaSem sig) : ℕ := ∑ h : Fin 8, ((if q = brR h then NR else 0) + if q = bwR h then NE else 0)

theorem tally_dcell (d c : Dev nD) (q q' : DmaSem sig) (n : ℕ) :
    (tallyAt (dcell d q') () n : CellTallies nD τ sig Unit) (dcell c q) () = if c = d then (if q = q' then n else 0) else 0 := by
  rw [tallyAt_apply]
  by_cases h : c = d
  · subst h
    rw [if_pos rfl]
    by_cases h' : q = q'
    · subst h'; rw [if_pos ⟨rfl, rfl⟩, if_pos rfl]
    · rw [if_neg h', if_neg fun e => h' (SemLoc.dma.inj (congrArg Prod.snd e.1))]
  · rw [if_neg h, if_neg fun e => h (Fin.ext (congrArg (fun g : GSem nD τ sig => g.1.1.val) e.1))]

theorem debt_all (c : Dev nD) : debt c 0 = (∑ h : Fin 8, owedB c h) + ∑ h : Fin 7, owedF c h := by
  have e : debt c 0 = ∑ k ∈ Finset.range 8, owedAt c k := Finset.sum_flip (n := 7) (fun k => owedAt c k)
  rw [e]
  unfold owedAt
  rw [Finset.sum_add_distrib]
  refine congrArg₂ (· + ·) ?_ ?_
  · rw [← Fin.sum_univ_eq_sum_range (fun k => if h : k < 8 then owedB c ⟨k, h⟩ else 0) 8]
    exact Finset.sum_congr rfl fun h _ => dif_pos h.isLt
  · rw [Finset.sum_range_succ, dif_neg (by decide), add_zero,
      ← Fin.sum_univ_eq_sum_range (fun k => if h : k < 7 then owedF c ⟨k, h⟩ else 0) 7]
    exact Finset.sum_congr rfl fun h _ => dif_pos h.isLt

theorem sum_tally {n : ℕ} (f : Fin n → CellTallies nD τ sig Unit) (g : GSem nD τ sig) : (∑ h, f h) g () = ∑ h, f h g () := by
  rw [Finset.sum_apply, Finsupp.finset_sum_apply]

theorem owedF_dma (d c : Dev nD) (q : DmaSem sig) : (∑ h : Fin 7, owedF d h) (dcell c q) () = if d = bk c 1 then cntF q else 0 := by
  rw [sum_tally]
  unfold owedF cntF
  simp only [Pi.add_apply, Finsupp.add_apply, tally_dcell]
  by_cases h : d = bk c 1
  · subst h; simp only [right_left, if_true]
  · have h' : ¬ c = fd d 1 := fun e => h (by rw [e, left_right])
    simp only [if_neg h', if_neg h, add_zero, Finset.sum_const_zero]
theorem owedB_dma (d c : Dev nD) (q : DmaSem sig) : (∑ h : Fin 8, owedB d h) (dcell c q) () = if d = fd c 1 then cntB q else 0 := by
  rw [sum_tally]
  unfold owedB cntB
  simp only [Pi.add_apply, Finsupp.add_apply, tally_dcell]
  by_cases h : d = fd c 1
  · subst h; simp only [left_right, if_true]
  · have h' : ¬ c = bk d 1 := fun e => h (by rw [e, right_left])
    simp only [if_neg h', if_neg h, add_zero, Finset.sum_const_zero]

theorem owed_dma (d c : Dev nD) (q : DmaSem sig) :
    O₀ d (dcell c q) () = (if d = fd c 1 then cntB q else 0) + (if d = bk c 1 then cntF q else 0) := by
  unfold O₀ O₁
  rw [debt_all]
  simp only [Pi.add_apply, Finsupp.add_apply]
  rw [owedF_dma, owedB_dma, tallyAt_ne_cell (fun h => by cases congrArg Prod.snd h), tallyAt_ne_cell (fun h => by cases congrArg Prod.snd h)]
  rfl

theorem debt_bar (d c : Dev nD) : debt d 0 (barCell c) () = 0 := by
  by_contra h
  have := (above_debt d 0 (barCell c) () (Nat.pos_of_ne_zero h)).2
  exact absurd this (by show ¬ (2 ≤ 1); decide)
theorem tally_bar (d c : Dev nD) : (tallyAt (barCell d) () 1 : CellTallies nD τ sig Unit) (barCell c) () = if c = d then 1 else 0 := by
  rw [tallyAt_apply]
  by_cases h : c = d
  · subst h; rw [if_pos ⟨rfl, rfl⟩, if_pos rfl]
  · rw [if_neg h, if_neg fun e => h (Fin.ext (congrArg (fun g : GSem nD τ sig => g.1.1.val) e.1))]
theorem owed_bar (d c : Dev nD) : O₀ d (barCell c) () = (if d = bk c 1 then 1 else 0) + (if d = fd c 1 then 1 else 0) := by
  unfold O₀ O₁
  rw [Pi.add_apply, Finsupp.add_apply, Pi.add_apply, Finsupp.add_apply, debt_bar, tally_bar, tally_bar, Nat.zero_add]
  congr 1
  · exact if_congr ⟨fun h => by rw [h, left_right], fun h => by rw [h, right_left]⟩ rfl rfl
  · exact if_congr ⟨fun h => by rw [h, right_left], fun h => by rw [h, left_right]⟩ rfl rfl

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (bk c 1) fun _ => 1, Finset.sum_ite_eq' Finset.univ (fd c 1) fun _ => 1, if_pos (Finset.mem_univ _), if_pos (Finset.mem_univ _)]
omit [FloatOps F] in
theorem launch_dma (c : Dev nD) (q : DmaSem sig) (n : ℕ) (hn : cntB q + cntF q = n) :
    tallyOn (dcell c q) (launchCredit (Pipeline.owing O₀) 0 (dcell c q)) = (tallyAt (dcell c q) () n : CellTallies nD τ sig Unit) := by
  unfold tallyAt; refine congrArg _ (Finsupp.ext fun u => ?_); cases u
  rw [Pipeline.launchCredit_owing, Finsupp.single_eq_same, Finset.sum_congr rfl fun d _ => owed_dma d c q, Finset.sum_add_distrib,
    Finset.sum_ite_eq' Finset.univ (fd c 1) fun _ => cntB q, Finset.sum_ite_eq' Finset.univ (bk c 1) fun _ => cntF q, if_pos (Finset.mem_univ _), if_pos (Finset.mem_univ _), hn]

theorem cnt_at {a : ℕ} (x : Fin a → DmaSem sig) (q : DmaSem sig) (k : ℕ) :
    (∑ h, if q = x h then k else 0) = (Finset.univ.filter fun h => q = x h).card * k := by
  rw [← Finset.sum_filter, Finset.sum_const, smul_eq_mul]
theorem cntF_eq (q : DmaSem sig) : cntF q = (Finset.univ.filter fun h : Fin 7 => q = frR h).card * NR + (Finset.univ.filter fun h : Fin 7 => q = fwR h).card * NE := by
  unfold cntF; rw [Finset.sum_add_distrib, cnt_at, cnt_at]
theorem cntB_eq (q : DmaSem sig) : cntB q = (Finset.univ.filter fun h : Fin 8 => q = brR h).card * NR + (Finset.univ.filter fun h : Fin 8 => q = bwR h).card * NE := by
  unfold cntB; rw [Finset.sum_add_distrib, cnt_at, cnt_at]
/-- How often each kind of semaphore appears among the four kinds that copies bring to. -/
theorem kinds_F (h : Fin 7) :
    ((Finset.univ.filter fun i : Fin 8 => fwR h = brR i).card = 0 ∧ (Finset.univ.filter fun i : Fin 8 => fwR h = bwR i).card = 0
      ∧ (Finset.univ.filter fun i : Fin 7 => fwR h = frR i).card = 0 ∧ (Finset.univ.filter fun i : Fin 7 => fwR h = fwR i).card = 1)
    ∧ ((Finset.univ.filter fun i : Fin 8 => frR h = brR i).card = 0 ∧ (Finset.univ.filter fun i : Fin 8 => frR h = bwR i).card = 0
      ∧ (Finset.univ.filter fun i : Fin 7 => frR h = frR i).card = 1 ∧ (Finset.univ.filter fun i : Fin 7 => frR h = fwR i).card = 0) := by
  revert h; decide +kernel
theorem kinds_B (h : Fin 8) :
    ((Finset.univ.filter fun i : Fin 8 => bwR h = brR i).card = 0 ∧ (Finset.univ.filter fun i : Fin 8 => bwR h = bwR i).card = 1
      ∧ (Finset.univ.filter fun i : Fin 7 => bwR h = frR i).card = 0 ∧ (Finset.univ.filter fun i : Fin 7 => bwR h = fwR i).card = 0)
    ∧ ((Finset.univ.filter fun i : Fin 8 => brR h = brR i).card = 1 ∧ (Finset.univ.filter fun i : Fin 8 => brR h = bwR i).card = 0
      ∧ (Finset.univ.filter fun i : Fin 7 => brR h = frR i).card = 0 ∧ (Finset.univ.filter fun i : Fin 7 => brR h = fwR i).card = 0) := by
  revert h; decide +kernel
theorem cnt_fwR (h : Fin 7) : cntB (fwR h) + cntF (fwR h) = NE := by
  obtain ⟨a, b, c, d⟩ := (kinds_F h).1; rw [cntB_eq, cntF_eq, a, b, c, d]; omega
theorem cnt_frR (h : Fin 7) : cntB (frR h) + cntF (frR h) = NR := by
  obtain ⟨a, b, c, d⟩ := (kinds_F h).2; rw [cntB_eq, cntF_eq, a, b, c, d]; omega
theorem cnt_bwR (h : Fin 8) : cntB (bwR h) + cntF (bwR h) = NE := by
  obtain ⟨a, b, c, d⟩ := (kinds_B h).1; rw [cntB_eq, cntF_eq, a, b, c, d]; omega
theorem cnt_brR (h : Fin 8) : cntB (brR h) + cntF (brR h) = NR := by
  obtain ⟨a, b, c, d⟩ := (kinds_B h).2; rw [cntB_eq, cntF_eq, a, b, c, d]; omega

/-- The credit of one hop. -/
def credF (c : Dev nD) (h : Fin 7) : sProp 𝕄 := iprop(cred (tallyAt (dcell c (fwR h)) () NE) ∗ cred (tallyAt (dcell c (frR h)) () NR))
def credB (c : Dev nD) (h : Fin 8) : sProp 𝕄 := iprop(cred (tallyAt (dcell c (bwR h)) () NE) ∗ cred (tallyAt (dcell c (brR h)) () NR))

def osemEmb : Fin 62 ↪ SemLoc sig :=
  ⟨osem, fun a b h => Fin.ext (by have := congrArg Fin.val (SemLoc.dma.inj h); simp only [dmaAt] at this; omega)⟩

omit [FloatOps F] in
theorem drop_two (A B C D : sProp 𝕄) : iprop(A ∗ B ∗ C ∗ D) ⊢ iprop(C ∗ D) := by
  iintro ⟨-, -, HC, HD⟩
  isplitl [HC]; · iexact HC
  iexact HD

omit [FloatOps F] in
theorem both_of {A A' B B' C : sProp 𝕄} (hA : A ⊢ A') (hB : B ⊢ B') : iprop(A ∗ B ∗ C) ⊢ iprop(A' ∗ B') := by
  iintro ⟨HA, HB, -⟩
  isplitl [HA]
  · iapply hA; iexact HA
  · iapply hB; iexact HB

omit [FloatOps F] in
theorem creds (c : Dev nD) :
    (Pipeline.launchCred O₀ c : sProp 𝕄) ⊢ iprop(cred (tallyAt (barCell c) () 2)
      ∗ (bigSep Finset.univ fun h : Fin 7 => credF c h) ∗ bigSep Finset.univ fun h : Fin 8 => credB c h) := by
  unfold Pipeline.launchCred
  rw [bigSep_univ_at _ (SemLoc.reg barS), launch_bar]
  refine sep_mono_right ?_
  have hsub : Finset.univ.map osemEmb ⊆ Finset.univ.erase (SemLoc.reg barS) := fun s hs => by
    obtain ⟨k, -, rfl⟩ := Finset.mem_map.mp hs
    exact Finset.mem_erase.mpr ⟨fun h => (by cases h), Finset.mem_univ _⟩
  refine BI.Entails.trans (bigSep_subset hsub) ?_
  rw [bigSep_map]
  refine BI.Entails.trans (Entails.of_eq (bigSep_dma fun q => (cred (tallyOn (dcell c q) (launchCredit (Pipeline.owing O₀) 0 (dcell c q))) : sProp 𝕄))) ?_
  have hF := turn <| bigSep_mono (Ψ := fun h : Fin 7 => credF (F := F) c h) (Φ := fun h : Fin 7 =>
    (iprop(cred (tallyOn (dcell c (fwS h)) (launchCredit (Pipeline.owing O₀) 0 (dcell c (fwS h)))) ∗ cred (tallyOn (dcell c (frS h)) (launchCredit (Pipeline.owing O₀) 0 (dcell c (frS h))))
      ∗ cred (tallyOn (dcell c (fwR h)) (launchCredit (Pipeline.owing O₀) 0 (dcell c (fwR h)))) ∗ cred (tallyOn (dcell c (frR h)) (launchCredit (Pipeline.owing O₀) 0 (dcell c (frR h))))) : sProp 𝕄))
    (s := Finset.univ) fun h _ => by
      rw [launch_dma c (fwR h) NE (cnt_fwR h), launch_dma c (frR h) NR (cnt_frR h)]
      exact drop_two _ _ _ _
  have hB := turn <| bigSep_mono (Ψ := fun h : Fin 8 => credB (F := F) c h) (Φ := fun h : Fin 8 =>
    (iprop(cred (tallyOn (dcell c (bwS h)) (launchCredit (Pipeline.owing O₀) 0 (dcell c (bwS h)))) ∗ cred (tallyOn (dcell c (brS h)) (launchCredit (Pipeline.owing O₀) 0 (dcell c (brS h))))
      ∗ cred (tallyOn (dcell c (bwR h)) (launchCredit (Pipeline.owing O₀) 0 (dcell c (bwR h)))) ∗ cred (tallyOn (dcell c (brR h)) (launchCredit (Pipeline.owing O₀) 0 (dcell c (brR h))))) : sProp 𝕄))
    (s := Finset.univ) fun h _ => by
      rw [launch_dma c (bwR h) NE (cnt_bwR h), launch_dma c (brR h) NR (cnt_brR h)]
      exact drop_two _ _ _ _
  exact both_of hF hB

end Cert.KernelIdeal.Moe

end
-- ==== Proof.Run.lean ====
/-
# Every run of the kernel

At launch every semaphore gets its invariant, every device its duties, positions and credit; each device's body runs as Body.lean
says; every execution ends with each device's result computed from all devices' arguments, the arguments as they were and every
semaphore at zero. This holds at any float operations.
-/
module

public import proofs.«01_k».proof.Proof.Cells
public import proofs.«01_k».proof.Proof.Gen.KernelIdeal.Launch
public import proofs.«01_k».proof.Proof.Gen.KernelIdeal.Points

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-- The arguments on device `c`: tokens, routing, weights. -/
def xs (c : Dev nD) : Vec F S512x256 .f32 := m ((c : Thread nD τ).loc main_arg0)
def rs (c : Dev nD) : Vec F S512x1 .i32 := m ((c : Thread nD τ).loc main_arg2)
def ws (c : Dev nD) : Vec F S2x256x512 .f32 := m ((c : Thread nD τ).loc main_arg3)

/-! ## What is staged -/

theorem blk_x (c : Dev nD) (t : Fin cfg0.N) : ((cfg0.win 0).blk t).view.read (Elt F) (m ((c : Thread nD τ).loc main_arg0)) = xs m c :=
  Memref.read_access_unit_zero (Elt F) main_arg0 (funext fun a => Nat.zero_mul _) (fun a => by fin_cases a <;> decide) _
theorem blk_r (c : Dev nD) (t : Fin cfg0.N) : ((cfg0.win 1).blk t).view.read (Elt F) (m ((c : Thread nD τ).loc main_arg2)) = rs m c :=
  Memref.read_access_unit_zero (Elt F) main_arg2 (funext fun a => Nat.zero_mul _) (fun a => by fin_cases a <;> decide) _
theorem blk_w (c : Dev nD) (t : Fin cfg0.N) : ((cfg0.win 2).blk t).view.read (Elt F) (m ((c : Thread nD τ).loc main_arg3)) = ws m c :=
  Memref.read_access_unit_zero (Elt F) main_arg3 (funext fun a => Nat.zero_mul _) (fun a => by fin_cases a <;> decide) _

/-- The gather buffers and what else the body takes. -/
def Φ₀ (c : Dev nD) : sProp 𝕄 := iprop(bodyIn (ws m) (rs m) c ∗ (∃ f, ewAll c f) ∗ (∃ f, rgAll c f))
def Φ₁ (c : Dev nD) : sProp 𝕄 := iprop(bodyOut c ∗ ewAll c (gw (ws m)) ∗ rgAll c (gr (rs m)))

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => rs m c
    | ⟨2, _⟩ => ws m c
    | ⟨3, _⟩ => result (ws m) (rs m) (xs m) c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_x (c : Dev nD) (t : Fin cfg0.N) (d) : (dats m 0 c).before 0 t d = xs m c := by
  unfold Dat.before; rw [if_pos (fetch0_0 t)]; exact blk_x m c t
theorem before_r (c : Dev nD) (t : Fin cfg0.N) (d) : (dats m 0 c).before 1 t d = rs m c := by
  unfold Dat.before; rw [if_pos (fetch0_1 t)]; exact blk_r m c t
theorem before_w (c : Dev nD) (t : Fin cfg0.N) (d) : (dats m 0 c).before 2 t d = ws m c := by
  unfold Dat.before; rw [if_pos (fetch0_2 t)]; exact blk_w m c t

/-! ## The body, as the pipeline calls it -/

abbrev t₀ : Fin cfg0.N := t0_0
/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
def bodyPost (c : Dev nD) : sProp 𝕄 :=
  iprop(Φ₁ m c ∗ (dats m 0 c).owesAt () t₀.succ
    ∗ stg c cc0_stg0_0 (xs m c) ∗ stg c cc0_stg1_0 (rs m c) ∗ stg c cc0_stg2_0 (ws m c)
    ∗ stg c cc0_stg3_0 (result (ws m) (rs m) (xs m) c))

theorem owes_in (c : Dev nD) : (dats m 0 c).owesAt () t₀.castSucc ⊢ (ow c (O₀ c) : sProp 𝕄) := by
  unfold Dat.owesAt Pipeline.owesWithin ow
  iintro ⟨%W, -, HO⟩
  iexists W; iexact HO
theorem owes_out (c : Dev nD) : (ow c 0 : sProp 𝕄) ⊢ (dats m 0 c).owesAt () t₀.succ := by
  unfold Dat.owesAt Pipeline.owesWithin ow
  iintro ⟨%W, HO⟩
  iexists W
  isplitr; · ipureintro; exact fun _ _ => Or.inl trivial
  iexact HO

theorem body_run (c : Dev nD) : bodyPre m c ⊢ wpc c moeBody (fun _ => bodyPost m c) := by
  unfold bodyPre bodyPost Φ₀ Φ₁
  iintro ⟨⟨Hin, He, Hg⟩, Ho, ⟨%d₀, %f₀, %h₀, Hx⟩, ⟨%d₁, %f₁, %h₁, Hr⟩, ⟨%d₂, %f₂, %h₂, Hw⟩, ⟨%d₃, %f₃, %h₃, Hout⟩⟩
  rw [before_x] at h₀
  rw [before_r] at h₁
  rw [before_w] at h₂
  subst h₀ h₁ h₂
  ihave Ho := (owes_in m c) $$ Ho
  iapply (body_spec (ws m) (rs m) (xs m) c (fun _ => _)) $$ [Hin He Hg Ho Hx Hr Hw Hout]
  · isplitl [Hin]; · iexact Hin
    isplitl [Ho]; · iexact Ho
    isplitl [He]; · iexact He
    isplitl [Hg]; · iexact Hg
    isplitl [Hx]; · unfold xPts; iexact Hx
    isplitl [Hr]; · unfold riPts; iexact Hr
    isplitl [Hw]; · unfold wPts; iexact Hw
    unfold oPts; iexists f₃; iexact Hout
  unfold xPts riPts wPts oPts
  iintro ⟨Hb, Ho, He, Hg, Hx, Hr, Hw, Hout⟩
  isplitl [Hb He Hg]
  · isplitl [Hb]; · iexact Hb
    isplitl [He]; · iexact He
    iexact Hg
  isplitl [Ho]; · iapply (owes_out m c); iexact Ho
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Hout

set_option maxRecDepth 100000 in
theorem body_obligation (c : Dev nD) : Pipeline.BodyObligation (dats (F := F) m 0 c) (defs₀ (F := F)) 𝒱₀ () Set.univ := fun t => by
  rw [fin_N0 t, bigSep_W0, bigSep_W0]
  simp only [owns_whole_eq]
  show bodyPre m c ⊢ wpc c (cc0_body xM (Memref.isWhole_whole _) riM (Memref.isWhole_whole _) wM (Memref.isWhole_whole _) oM (Memref.isWhole_whole _)
    ewM (Memref.isWhole_whole _) rgM (Memref.isWhole_whole _) cc0_scratch2 cc0_scratch3 cc0_scratch4 cc0_scratch5 cc0_scratch6 cc0_scratch7
    cc0_scratch8 cc0_scratch9 cc0_scratch10) (fun _ => bodyPost m c)
  rw [body_eq]
  exact body_run m c

end Cert.KernelIdeal.Moe

end
-- ==== Proof.Launch.lean ====
/-
# The launch

Every semaphore starts at zero: its invariant is allocated for all devices at once, the duties are dealt round the ring, each
device gets its positions and the credit for what the others will bring. Then every execution of the kernel on sixteen devices
ends as `Ends` says.
-/
module

public import proofs.«01_k».proof.Proof.Run
public import Idealize.ShloMosaic.Lib.Quiescent
public import Idealize.ShloMosaic.Lib.Pipeline.CollectiveSegs

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel
theorem share_eq (c : Dev nD) (w : Fin cfg0.W) : (dats m 0 c).share w = fullShare := by unfold Dat.share; split <;> rfl

/-! ## The cells and tokens -/

theorem csem_injective : Function.Injective csem := by decide +kernel
theorem kcell_injective : Function.Injective (kcell : Dev nD × Fin 63 → GSem nD τ sig) := by
  rintro ⟨c, k⟩ ⟨c', k'⟩ h
  have h1 : c = c' := Fin.ext (congrArg (fun g : GSem nD τ sig => g.1.1.val) h)
  subst h1
  exact congrArg (Prod.mk c) (csem_injective (congrArg Prod.snd h))
def ringCells : Finset (GSem nD τ sig) := Finset.univ.map ⟨kcell, kcell_injective⟩

/-- Every semaphore's duty `false`, and the barriers' duty `true`. -/
def tokOf : (Dev nD × Fin 63) ⊕ Dev nD → GSem nD τ sig × ℕ × Bool
  | .inl ck => (kcell ck, 0, false)
  | .inr c => (barCell c, 0, true)
theorem tokOf_injective : Function.Injective tokOf := by
  rintro (a | a) (b | b) h
  · exact congrArg Sum.inl (kcell_injective (congrArg Prod.fst h))
  · exact absurd (congrArg (fun x : GSem nD τ sig × ℕ × Bool => x.2.2) h) Bool.false_ne_true
  · exact absurd (congrArg (fun x : GSem nD τ sig × ℕ × Bool => x.2.2) h) Bool.false_ne_true.symm
  · exact congrArg Sum.inr (Fin.ext (congrArg (fun x : GSem nD τ sig × ℕ × Bool => x.1.1.1.val) h))
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- What device `c` gets of the launch's ghost state; -/
def G (c : Dev nD) : sProp 𝕄 :=
  iprop((bigSep Finset.univ fun k : Fin 63 => roundState ER (Rd (ws m) (rs m)) (kcell (c, k)) 0)
    ∗ (bigSep Finset.univ fun k : Fin 63 => atPos ER (kcell (c, k)) 0 ∅ 0)
    ∗ (bigSep Finset.univ fun k : Fin 63 => reached ER (kcell (c, k)) 0) ∗ toks c)
/-- what it has once the tokens are dealt. -/
def pos (c : Dev nD) : sProp 𝕄 := bigSep Finset.univ fun k : Fin 63 => atPos ER (kcell (c, k)) 0 ∅ 0
def payToks (c : Dev nD) : sProp 𝕄 :=
  iprop(payBar c ∗ payOwn c ∗ (bigSep Finset.univ fun h : Fin 7 => tokF c h) ∗ bigSep Finset.univ fun h : Fin 8 => tokB c h)
def G' (c : Dev nD) : sProp 𝕄 := iprop(records (ws m) (rs m) ∗ pos c ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 63 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_sum, bigSep_univ_prod, bigSep_sep']; rfl
  iintro HX
  imod (Rounds.fund ER (Rd (ws m) (rs m)) ringCells ringToks) $$ HX with ⟨Hst, Hr, Hat, Htok⟩
  imodintro
  ihave Hst' := (Entails.of_eq (hX fun g => roundState ER (Rd (ws m) (rs m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores at zero -/

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
theorem sems0_eq (c : Dev nD) :
    (iprop(Pipeline.ownSems0 (Ix := Unit) (Name := ℕ) (U := UU) (Lvl := ℕ) (Val := Elt F) (τ := τ) osem c ∗ unscopedSems0 c) : sProp 𝕄)
      = bigSep Finset.univ fun k : Fin 63 => semVal (kcell (c, k)) 0 := by
  rw [bigSep_kcell c fun g => (semVal g 0 : sProp 𝕄), unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => known (ws m) (rs m) (kcell (c, k))) ∗ pos c ∗ toks c) := by
  unfold G pos known
  rw [bigSep_sep']
  iintro ⟨Hos, Hus, Hst, Hat, Hr, Htok⟩
  ihave Hv := (Entails.of_eq (sems0_eq (F := F) c)) $$ [Hos Hus]
  · isplitl [Hos] <;> iassumption
  imod (show iprop((bigSep Finset.univ fun k : Fin 63 => semVal (kcell (c, k)) 0) ∗ bigSep Finset.univ fun k : Fin 63 => roundState ER (Rd (ws m) (rs m)) (kcell (c, k)) 0)
      ⊢ (|={Set.univ}=> bigSep Finset.univ fun k => iprop(∃ κ : ℕ, cellInv ER (Rd (ws m) (rs m)) κ (kcell (c, k))) : sProp 𝕄) from by
        rw [← bigSep_sep']
        exact (bigSep_mono fun k _ => (Rounds.body_intro ER (Rd (ws m) (rs m)) (kcell (c, k))).trans inv_alloc).trans (bigSep_fupd _ _)) $$ [Hv Hst] with Hinv
  · isplitl [Hv] <;> iassumption
  imodintro
  isplitl [Hinv Hr]
  · isplitl [Hinv]; · iexact Hinv
    iexact Hr
  isplitl [Hat]; · iexact Hat
  iexact Htok

omit [FloatOps F] in
theorem with_persistent {I : Type} [DecidableEq I] {S : Finset I} {R : sProp 𝕄} [BI.Persistent R] (Φ : I → sProp 𝕄) :
    iprop(R ∗ bigSep S Φ) ⊢ bigSep S fun i => iprop(R ∗ Φ i) := by
  rw [bigSep_sep']
  exact sep_mono_left (BI.bigSep_of_persistent S R)

theorem regroup :
    (bigSep Finset.univ fun c : Dev nD => iprop((bigSep Finset.univ fun k => known (ws m) (rs m) (kcell (c, k))) ∗ pos c ∗ toks c) : sProp 𝕄)
      ⊢ bigSep Finset.univ (G' m) := by
  rw [bigSep_sep', bigSep_sep', ← bigSep_univ_prod (fun ck : Dev nD × Fin 63 => known (ws m) (rs m) (kcell ck))]
  iintro ⟨HR, Hat, Htok⟩
  ihave Htk := (toks_around (F := F)) $$ Htok
  unfold G'
  iapply (with_persistent (R := records (ws m) (rs m)) fun c : Dev nD => iprop(pos c ∗ payToks c))
  isplitl [HR]; · unfold records; iexact HR
  iapply (Entails.of_eq (bigSep_sep' Finset.univ (fun c : Dev nD => pos (F := F) c) payToks).symm)
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What each device's body starts and ends with -/

omit [FloatOps F] in
theorem two_pairs (A B C D : sProp 𝕄) : iprop(A ∗ B ∗ C ∗ D) ⊢ iprop((A ∗ B) ∗ (C ∗ D)) := sep_two_two A B C D

omit [FloatOps F] in
theorem linF_intro (c : Dev nD) (h : Fin 7) :
    iprop(tokF c h ∗ (atPos ER (dcell c (fwS h)) 0 ∅ 0 ∗ atPos ER (dcell c (frS h)) 0 ∅ 0 ∗ atPos ER (dcell c (fwR h)) 0 ∅ 0 ∗ atPos ER (dcell c (frR h)) 0 ∅ 0) ∗ credF c h)
      ⊢ (linF c h : sProp 𝕄) := by
  unfold linF credF
  iintro ⟨H1, ⟨H2, H3, H4, H5⟩, H6⟩
  isplitl [H1]; · iexact H1
  isplitl [H2 H3]
  · isplitl [H2]; · iexact H2
    iexact H3
  isplitl [H4 H5]
  · isplitl [H4]; · iexact H4
    iexact H5
  iexact H6
omit [FloatOps F] in
theorem linB_intro (c : Dev nD) (h : Fin 8) :
    iprop(tokB c h ∗ (atPos ER (dcell c (bwS h)) 0 ∅ 0 ∗ atPos ER (dcell c (brS h)) 0 ∅ 0 ∗ atPos ER (dcell c (bwR h)) 0 ∅ 0 ∗ atPos ER (dcell c (brR h)) 0 ∅ 0) ∗ credB c h)
      ⊢ (linB c h : sProp 𝕄) := by
  unfold linB credB
  iintro ⟨H1, ⟨H2, H3, H4, H5⟩, H6⟩
  isplitl [H1]; · iexact H1
  isplitl [H2 H3]
  · isplitl [H2]; · iexact H2
    iexact H3
  isplitl [H4 H5]
  · isplitl [H4]; · iexact H4
    iexact H5
  iexact H6

omit [FloatOps F] in
theorem lin_intro (c : Dev nD) :
    iprop(((bigSep Finset.univ fun h : Fin 7 => tokF c h) ∗ bigSep Finset.univ fun h : Fin 8 => tokB c h) ∗ pos c
        ∗ (bigSep Finset.univ fun h : Fin 7 => credF c h) ∗ bigSep Finset.univ fun h : Fin 8 => credB c h)
      ⊢ (iprop((atPos ER (dcell c own0) 0 ∅ 0 ∗ atPos ER (dcell c own1) 0 ∅ 0) ∗ atPos ER (barCell c) 0 ∅ 0
        ∗ (bigSep Finset.univ fun h : Fin 7 => linF c h) ∗ bigSep Finset.univ fun h : Fin 8 => linB c h) : sProp 𝕄) := by
  unfold pos
  rw [bigSep_kcell c fun g => (atPos ER g 0 ∅ 0 : sProp 𝕄), bigSep_dma fun q => (atPos ER (dcell c q) 0 ∅ 0 : sProp 𝕄)]
  have hF := turn <| bigSep_mono (s := Finset.univ) fun (h : Fin 7) _ => linF_intro (F := F) c h
  have hB := turn <| bigSep_mono (s := Finset.univ) fun (h : Fin 8) _ => linB_intro (F := F) c h
  rw [bigSep_sep', bigSep_sep'] at hF hB
  iintro ⟨⟨H1, H2⟩, ⟨⟨H3, H4, H5⟩, H6⟩, H7, H8⟩
  isplitl [H5]; · iexact H5
  isplitl [H6]; · iexact H6
  isplitl [H1 H3 H7]
  · iapply hF
    isplitl [H1]; · iexact H1
    isplitl [H3]; · iexact H3
    iexact H7
  · iapply hB
    isplitl [H2]; · iexact H2
    isplitl [H4]; · iexact H4
    iexact H8

omit [FloatOps F] in
theorem done_out (c : Dev nD) :
    iprop((bigSep Finset.univ fun h : Fin 7 => doneF c h) ∗ (bigSep Finset.univ fun h : Fin 8 => doneB c h) ∗ semVal (dcell c own0) 0 ∗ semVal (dcell c own1) 0)
      ⊢ (Pipeline.ownSems0 (Ix := Unit) (Name := ℕ) (U := UU) (Lvl := ℕ) (Val := Elt F) (τ := τ) osem c : sProp 𝕄) := by
  unfold Pipeline.ownSems0
  have e := bigSep_dma fun q => (semVal (dcell c q) 0 : sProp 𝕄)
  have hF := turn <| bigSep_mono (s := Finset.univ) fun (h : Fin 7) _ => sep_two_two' (F := F) (semVal (dcell c (fwS h)) 0) (semVal (dcell c (frS h)) 0) (semVal (dcell c (fwR h)) 0) (semVal (dcell c (frR h)) 0)
  have hB := turn <| bigSep_mono (s := Finset.univ) fun (h : Fin 8) _ => sep_two_two' (F := F) (semVal (dcell c (bwS h)) 0) (semVal (dcell c (brS h)) 0) (semVal (dcell c (bwR h)) 0) (semVal (dcell c (brR h)) 0)
  refine BI.Entails.trans ?_ (Entails.of_eq e.symm)
  exact BI.sep_mono hF (sep_mono_left hB)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(bodyIn (ws m) (rs m) c ∗ (((c : Thread nD τ).loc main_arg1) ↦{fullShare} m ((c : Thread nD τ).loc main_arg1))) := by
  rw [Pipeline.unscopedRestP_none, unscopedRest0_eq]
  unfold G' payToks payBar payOwn bodyIn
  iintro ⟨Harg, Hlev, Hcr, -, HR, Hpos, HtB, HtO, HtF, HtBk⟩
  ihave Hc := (creds (F := F) c) $$ Hcr
  icases Hc with ⟨Hcb, HcF, HcB⟩
  ihave Hl := (lin_intro (F := F) c) $$ [HtF HtBk Hpos HcF HcB]
  · isplitl [HtF HtBk]
    · isplitl [HtF]; · iexact HtF
      iexact HtBk
    isplitl [Hpos]; · iexact Hpos
    isplitl [HcF]; · iexact HcF
    iexact HcB
  icases Hl with ⟨HaO, HaB, HlF, HlB⟩
  imodintro
  isplitr [Harg]
  · isplitl [HR]; · iexact HR
    isplitl [Hlev]; · iexact Hlev
    isplitl [HtB]; · iexact HtB
    isplitl [HtO]; · iexact HtO
    isplitl [HaO]; · iexact HaO
    isplitl [HaB]; · iexact HaB
    isplitl [Hcb]; · iexact Hcb
    isplitl [HlF]; · iexact HlF
    iexact HlB
  · iexact Harg

theorem phi_in (c : Dev nD) :
    iprop(bodyIn (ws m) (rs m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ ewAll rgAll
  iintro ⟨Hs, -, ⟨%f, He⟩, ⟨%g, Hg⟩⟩
  isplitl [Hs]; · iexact Hs
  isplitl [He]
  · iexists f; iexact He
  · iexists g; iexact Hg

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, unscopedSems0_eq]
  unfold Φ₁ ewAll rgAll bodyOut
  iintro ⟨⟨HO, HB, HF, HK⟩, He, Hg⟩
  isplitl [HB]; · iexact HB
  isplitl [HO HF HK]
  · iapply (done_out (F := F) c)
    isplitl [HF]; · iexact HF
    isplitl [HK]; · iexact HK
    iexact HO
  isplitl [He]
  · iexists _; iexact He
  · iexists _; iexact Hg

theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> exact Nat.le_refl 0) (by
      rcases t with ⟨_ | _, ht⟩
      · exact above_O₀ c
      · exact Above.zero 1)

/-! ## The run -/

/-- The final memory: each window's array as the pipeline leaves it, the argument the kernel doesn't use as it was. -/
def Ends : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)

set_option maxRecDepth 100000 in
theorem run_ends : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := bodyIn (ws m) (rs m)) (Y := fun c => unscopedSems0 c)
    (Z := fun c => (((c : Thread nD τ).loc main_arg1) ↦{fullShare} m ((c : Thread nD τ).loc main_arg1)))
    (hX := start_intro m ρ) (hin := phi_in m) (hout := phi_out m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Harg, HSI⟩
      ihave H := (pointsTo_read_all {()} (fun _ : Unit => (c : Thread nD τ).loc main_arg1) (fun _ => m ((c : Thread nD τ).loc main_arg1)) s') $$ [Harg HSI]
      · rw [bigSep_singleton]
        isplitl [Harg] <;> iassumption
      icases H with ⟨%harg, HSI⟩
      imod (Pipeline.unscopedSems0_read (X := unscopedSems0 c) (c := c) fupd_intro s') $$ [Hu HSI] with ⟨%hz, HSI⟩
      · isplitl [Hu] <;> iassumption
      imodintro
      isplitr
      · ipureintro; exact ⟨hz, harg () (Finset.mem_singleton_self _)⟩
      · iexact HSI)
    (hQ := fun _ h hs => ⟨fun c => ⟨fun w => (h c).1 w, (h c).2.2.2⟩, sem_eq_zero hs fun c => (h c).2.2.1⟩)

end Cert.KernelIdeal.Moe

end
-- ==== Proof.Final.lean ====
/-
# The final memory

What the launch's theorem says of the windows' arrays, read off: the result array holds the result, the arguments are unchanged.
-/
module

public import proofs.«01_k».proof.Proof.Launch

@[expose] public section

noncomputable section

namespace Cert.KernelIdeal.Moe

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The result window's array after the run is what the body stored. -/
theorem array_out (c : Dev nD) : (dats m 0 c).arrAt (3 : Fin 4) cfg0.N = result (ws m) (rs m) (xs m) c := by
  have h : (win0_3.blk t₀).view.read (Elt F) ((dats m 0 c).arrAt (3 : Fin 4) cfg0.N) = result (ws m) (rs m) (xs m) c := by
    rw [show cfg0.N = (t₀ : Fin cfg0.N).val + 1 from rfl, (dats m 0 c).arrAt_succ (3 : Fin 4) t₀,
      show (cfg0.win (3 : Fin 4)).flush t₀ = true from flush0_3 t₀, if_pos rfl]
    exact View.read_write_univ _ _
  have hr := fun f => Memref.read_access_unit_zero (Elt F) main_v1 (off := fun a => (win0_3.index t₀) a * main_v1.ty.shape.size a)
    (funext fun a => Nat.zero_mul _) (fun a => by fin_cases a <;> decide) f
  exact (hr _).symm.trans h

/-- The arguments of device `c` are as they were. -/
def Kept (r : PUnit × MemSt nD τ sig (Elt F)) (c : Dev nD) : Prop :=
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)

/-- Every execution of the kernel, on every device: the result computed, the arguments kept, every semaphore at zero. -/
theorem run_main : θ_run defs (onTc (τ := τ) (main (F := F))) (s₀ m ρ) (fun r =>
    (∀ c : Dev nD, r.2.mem ((c : Thread nD τ).loc main_v1) = result (ws m) (rs m) (xs m) c ∧ Kept m r c) ∧ r.2.sem = fun _ => 0) :=
  (θ_run defs _ _).mono (fun r h => ⟨fun c => ⟨((h.1 c).1 (3 : Fin 4)).trans (array_out m c),
      ((h.1 c).1 (0 : Fin 4)).trans ((dats m 0 c).arrAt_in (0 : Fin 4) rfl _), (h.1 c).2,
      ((h.1 c).1 (1 : Fin 4)).trans ((dats m 0 c).arrAt_in (1 : Fin 4) rfl _),
      ((h.1 c).1 (2 : Fin 4)).trans ((dats m 0 c).arrAt_in (2 : Fin 4) rfl _)⟩, h.2⟩) (run_ends m ρ)

end Cert.KernelIdeal.Moe

end
-- ==== Proof.Frames.lean ====
/-
# The frames

Both kernel programs have the same text, so the run written once for any float operations is either one's; the reference, of one
device, has no semaphore.
-/
module

public import proofs.«01_k».proof.Defs
public import proofs.«01_k».proof.Proof.Final
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The run with the result dropped. -/
theorem kept_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c, Cert.KernelIdeal.Moe.Kept m r c) ∧ r.2.sem = fun _ => 0) :=
  (θ_run Cert.KernelIdeal.defs _ _).mono (fun _ h => ⟨fun c => (h.1 c).2, h.2⟩) (Cert.KernelIdeal.Moe.run_main m ρ)

theorem frame_ideal : Cert.quiescent_KernelIdeal (hKernelIdeal := Cert.KernelIdeal.Gen.facts) := fun m ρ _ => kept_any (F := Ideal) m ρ

/-! The two kernel programs' body tables are the same, entry by entry. -/

set_option maxRecDepth 100000 in
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
theorem defs_eq : Cert.Kernel.defs (F := Bits) = Cert.KernelIdeal.defs (F := Bits) := by
  unfold Cert.Kernel.defs Cert.KernelIdeal.defs
  exact congrArg (Pipeline.defs Cert.KernelIdeal.pcfgs) bodies_eq

set_option maxRecDepth 100000 in
theorem frame_kernel : Cert.quiescent_Kernel (hKernel := Cert.Kernel.Gen.facts) := fun m ρ _ => by
  rw [defs_eq]
  exact kept_any (F := Bits) m ρ

theorem frame_reference : Cert.quiescent_ReferenceIdeal (hReferenceIdeal := Cert.ReferenceIdeal.Gen.facts) := fun m ρ _ =>
  (θ_run Cert.ReferenceIdeal.defs _ _).mono (fun _ h => ⟨fun c => (h c).2, Idealize.ShloMosaic.sem_eq_zero_of_no_sems (by decide) _⟩)
    (Cert.ReferenceIdeal.Value.run (F := Ideal) m ρ)

end Cert.Proof

end
-- ==== Proof.Equal.lean ====
/-
# The kernel's result is the reference's

Device `c`'s rows of the reference's result are what the kernel leaves there.
-/
module

public import proofs.«01_k».proof.Proof.KernelValue
public import proofs.«01_k».proof.Proof.RefValue
public import proofs.«01_k».proof.Proof.Frames

@[expose] public section

noncomputable section

namespace Cert.Proof

open Idealize.ShloMosaic Cert.Moe

/-- Where a device's rows are among all rows. -/
theorem row {n : ℕ} (h : Layout.Tiles ⟨2, ![512, n]⟩ ⟨2, ![8192, n]⟩ 0 16) (c : Fin 16) (t : Fin 512) (l : Fin n) :
    h.idx c (ix2 t l) = ix2 (tok c t) l := by
  funext b
  apply Fin.ext
  match b with
  | ⟨0, _⟩ => exact congrArg (· + t.val) (Nat.mul_comm _ _)
  | ⟨1, _⟩ => rfl

/-- Where a device's experts are among all experts. -/
theorem slab (h : Layout.Tiles ⟨3, ![2, 256, 512]⟩ ⟨3, ![32, 256, 512]⟩ 0 16) (c : Fin 16) (j : Fin 2) (d : Fin 256) (l : Fin 512) :
    h.idx c (ix3 j d l) = ix3 (expert c j) d l := by
  funext b
  apply Fin.ext
  match b with
  | ⟨0, _⟩ => exact congrArg (· + j.val) (Nat.mul_comm _ _)
  | ⟨1, _⟩ => rfl
  | ⟨2, _⟩ => rfl

/-- The two results, device by device. -/
theorem result_eq (X : FVec Ideal ⟨2, ![8192, 256]⟩ .f32) (Q : IVec ⟨2, ![8192, 1]⟩ 32) (W : FVec Ideal ⟨3, ![32, 256, 512]⟩ .f32)
    (x : Dev Cert.KernelIdeal.nD → FVec Ideal ⟨2, ![512, 256]⟩ .f32) (r : Dev Cert.KernelIdeal.nD → IVec ⟨2, ![512, 1]⟩ 32)
    (w : Dev Cert.KernelIdeal.nD → FVec Ideal ⟨3, ![2, 256, 512]⟩ .f32)
    (hx : ∀ c, x c = Layout.block ⟨2, ![512, 256]⟩ ⟨2, ![8192, 256]⟩ 0 16 c X)
    (hr : ∀ c, r c = Layout.block ⟨2, ![512, 1]⟩ ⟨2, ![8192, 1]⟩ 0 16 c Q)
    (hw : ∀ c, w c = Layout.block ⟨3, ![2, 256, 512]⟩ ⟨3, ![32, 256, 512]⟩ 0 16 c W) (c : Dev Cert.KernelIdeal.nD) :
    Cert.KernelIdeal.Moe.result (F := Ideal) w r x c
      = Layout.block ⟨2, ![512, 512]⟩ ⟨2, ![8192, 512]⟩ 0 16 c (Cert.ReferenceIdeal.Moe.total X Q W) := by
  funext i
  obtain ⟨t, h, rfl⟩ : ∃ (t : Fin 512) (h : Fin 512), i = ix2 t h := ⟨i 0, i 1, eq_ix2 i⟩
  rw [Layout.block_apply, row, Cert.ReferenceIdeal.Moe.total_apply]
  exact Cert.KernelIdeal.Moe.result_apply r (Cert.ReferenceIdeal.Moe.names Q) x w c t h X W
    (fun d => by rw [hx, Layout.block_apply, row])
    (fun s t => by rw [hr, Layout.block_apply, row])
    (fun o j d h => by rw [hw, Layout.block_apply, slab])

theorem algebraic : Cert.algebraic_KernelIdeal_ReferenceIdeal (hKernelIdeal := Cert.KernelIdeal.Gen.facts) (hReferenceIdeal := Cert.ReferenceIdeal.Gen.facts) :=
  fun m g m' g' _ hm =>
    ⟨_, (θ_run Cert.KernelIdeal.defs _ _).mono
        (fun _ k c => ⟨((k.1 c).1).trans (result_eq _ _ _ _ _ _ (fun c => (hm c).1) (fun c => (hm c).2.2.1) (fun c => (hm c).2.2.2) c), (k.1 c).2⟩)
        (Cert.KernelIdeal.Moe.run_main (F := Ideal) m g),
      (θ_run Cert.ReferenceIdeal.defs _ _).mono (fun _ k => k 0) (Cert.ReferenceIdeal.Moe.run m' g')⟩

end Cert.Proof

end
-- ==== Proof.lean ====
/-
# The claims

The frames are Proof/Frames.lean's, the equation of the two results Proof/Equal.lean's.
-/
module

public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_ideal, frame_reference, trivial, algebraic⟩

end Cert.Proof

end
